-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S1x4096x128 : Shape := ⟨3, ![1, 4096, 128]⟩
abbrev S128x32 : Shape := ⟨2, ![128, 32]⟩
abbrev S32 : Shape := ⟨1, ![32]⟩
abbrev S32x32 : Shape := ⟨2, ![32, 32]⟩
abbrev S96x32 : Shape := ⟨2, ![96, 32]⟩
abbrev S96x22 : Shape := ⟨2, ![96, 22]⟩
abbrev S22 : Shape := ⟨1, ![22]⟩
abbrev S4096x4096 : Shape := ⟨2, ![4096, 4096]⟩
abbrev S4096x128 : Shape := ⟨2, ![4096, 128]⟩
abbrev S1x4096 : Shape := ⟨2, ![1, 4096]⟩
abbrev S512x4096 : Shape := ⟨2, ![512, 4096]⟩
abbrev S8x4096 : Shape := ⟨2, ![8, 4096]⟩
abbrev S4x4096 : Shape := ⟨2, ![4, 4096]⟩
abbrev S2x4096 : Shape := ⟨2, ![2, 4096]⟩
abbrev S4096x1 : Shape := ⟨2, ![4096, 1]⟩
abbrev S4096x32 : Shape := ⟨2, ![4096, 32]⟩
abbrev S512x1 : Shape := ⟨2, ![512, 1]⟩
abbrev S512x128 : Shape := ⟨2, ![512, 128]⟩
abbrev S1x4096x32 : Shape := ⟨3, ![1, 4096, 32]⟩
abbrev S_ : Shape := ⟨0, ![]⟩
abbrev S1x1x32 : Shape := ⟨3, ![1, 1, 32]⟩
abbrev S512x32 : Shape := ⟨2, ![512, 32]⟩
abbrev S1x32 : Shape := ⟨2, ![1, 32]⟩
abbrev S1x22 : Shape := ⟨2, ![1, 22]⟩
abbrev S4096x22 : Shape := ⟨2, ![4096, 22]⟩
abbrev S32x22 : Shape := ⟨2, ![32, 22]⟩
abbrev S4096 : Shape := ⟨1, ![4096]⟩
abbrev S1x4096x22 : Shape := ⟨3, ![1, 4096, 22]⟩

abbrev nBuf : Space → Nat
  | .hbm => 176
  | .vmem => 41
  | .smem => 0
  | _ => 0

abbrev hbmTy0_0 (i : Nat) : BufTy := match i % 128 with
  | 0 => ⟨S1x4096x4096, .f32⟩
  | 1 => ⟨S1x4096x128, .f32⟩
  | 2 => ⟨S128x32, .f32⟩
  | 3 => ⟨S32, .f32⟩
  | 4 => ⟨S32, .f32⟩
  | 5 => ⟨S32x32, .f32⟩
  | 6 => ⟨S32, .f32⟩
  | 7 => ⟨S32, .f32⟩
  | 8 => ⟨S32x32, .f32⟩
  | 9 => ⟨S32, .f32⟩
  | 10 => ⟨S32, .f32⟩
  | 11 => ⟨S96x32, .f32⟩
  | 12 => ⟨S32, .f32⟩
  | 13 => ⟨S96x22, .f32⟩
  | 14 => ⟨S22, .f32⟩
  | 15 => ⟨S4096x4096, .f32⟩
  | 16 => ⟨S4096x128, .f32⟩
  | 17 => ⟨S1x4096, .f32⟩
  | 18 => ⟨S4096x1, .f32⟩
  | 19 => ⟨S4096x4096, .bf16⟩
  | 20 => ⟨S4096x32, .f32⟩
  | 21 => ⟨S1x4096x32, .f32⟩
  | 22 => ⟨S_, .f32⟩
  | 23 => ⟨S32, .f32⟩
  | 24 => ⟨S1x1x32, .f32⟩
  | 25 => ⟨S_, .f32⟩
  | 26 => ⟨S1x1x32, .f32⟩
  | 27 => ⟨S1x1x32, .f32⟩
  | 28 => ⟨S_, .i32⟩
  | 29 => ⟨S_, .f32⟩
  | 30 => ⟨S32, .f32⟩
  | 31 => ⟨S1x1x32, .f32⟩
  | 32 => ⟨S_, .f32⟩
  | 33 => ⟨S1x1x32, .f32⟩
  | 34 => ⟨S1x1x32, .f32⟩
  | 35 => ⟨S1x4096x32, .f32⟩
  | 36 => ⟨S1x4096x32, .f32⟩
  | 37 => ⟨S1x4096x32, .f32⟩
  | 38 => ⟨S_, .f32⟩
  | 39 => ⟨S_, .f32⟩
  | 40 => ⟨S_, .f32⟩
  | 41 => ⟨S_, .f32⟩
  | 42 => ⟨S32, .f32⟩
  | 43 => ⟨S1x1x32, .f32⟩
  | 44 => ⟨S1x1x32, .f32⟩
  | 45 => ⟨S1x1x32, .f32⟩
  | 46 => ⟨S_, .f32⟩
  | 47 => ⟨S_, .i1⟩
  | 48 => ⟨S_, .f32⟩
  | 49 => ⟨S_, .f32⟩
  | 50 => ⟨S1x1x32, .f32⟩
  | 51 => ⟨S1x1x32, .f32⟩
  | 52 => ⟨S1x4096x32, .f32⟩
  | 53 => ⟨S1x4096x32, .f32⟩
  | 54 => ⟨S1x1x32, .f32⟩
  | 55 => ⟨S1x4096x32, .f32⟩
  | 56 => ⟨S1x4096x32, .f32⟩
  | 57 => ⟨S_, .f32⟩
  | 58 => ⟨S1x1x32, .f32⟩
  | 59 => ⟨S1x1x32, .f32⟩
  | 60 => ⟨S1x1x32, .f32⟩
  | 61 => ⟨S1x4096x32, .f32⟩
  | 62 => ⟨S1x4096x32, .f32⟩
  | 63 => ⟨S1x1x32, .f32⟩
  | 64 => ⟨S1x4096x32, .f32⟩
  | 65 => ⟨S1x4096x32, .f32⟩
  | 66 => ⟨S_, .f32⟩
  | 67 => ⟨S1x4096x32, .f32⟩
  | 68 => ⟨S1x4096x32, .f32⟩
  | 69 => ⟨S4096x32, .f32⟩
  | 70 => ⟨S4096x32, .f32⟩
  | 71 => ⟨S1x4096x32, .f32⟩
  | 72 => ⟨S_, .f32⟩
  | 73 => ⟨S32, .f32⟩
  | 74 => ⟨S1x1x32, .f32⟩
  | 75 => ⟨S_, .f32⟩
  | 76 => ⟨S1x1x32, .f32⟩
  | 77 => ⟨S1x1x32, .f32⟩
  | 78 => ⟨S_, .i32⟩
  | 79 => ⟨S_, .f32⟩
  | 80 => ⟨S32, .f32⟩
  | 81 => ⟨S1x1x32, .f32⟩
  | 82 => ⟨S_, .f32⟩
  | 83 => ⟨S1x1x32, .f32⟩
  | 84 => ⟨S1x1x32, .f32⟩
  | 85 => ⟨S1x4096x32, .f32⟩
  | 86 => ⟨S1x4096x32, .f32⟩
  | 87 => ⟨S1x4096x32, .f32⟩
  | 88 => ⟨S_, .f32⟩
  | 89 => ⟨S_, .f32⟩
  | 90 => ⟨S_, .f32⟩
  | 91 => ⟨S_, .f32⟩
  | 92 => ⟨S32, .f32⟩
  | 93 => ⟨S1x1x32, .f32⟩
  | 94 => ⟨S1x1x32, .f32⟩
  | 95 => ⟨S1x1x32, .f32⟩
  | 96 => ⟨S_, .f32⟩
  | 97 => ⟨S_, .i1⟩
  | 98 => ⟨S_, .f32⟩
  | 99 => ⟨S_, .f32⟩
  | 100 => ⟨S1x1x32, .f32⟩
  | 101 => ⟨S1x1x32, .f32⟩
  | 102 => ⟨S1x4096x32, .f32⟩
  | 103 => ⟨S1x4096x32, .f32⟩
  | 104 => ⟨S1x1x32, .f32⟩
  | 105 => ⟨S1x4096x32, .f32⟩
  | 106 => ⟨S1x4096x32, .f32⟩
  | 107 => ⟨S_, .f32⟩
  | 108 => ⟨S1x1x32, .f32⟩
  | 109 => ⟨S1x1x32, .f32⟩
  | 110 => ⟨S1x1x32, .f32⟩
  | 111 => ⟨S1x4096x32, .f32⟩
  | 112 => ⟨S1x4096x32, .f32⟩
  | 113 => ⟨S1x1x32, .f32⟩
  | 114 => ⟨S1x4096x32, .f32⟩
  | 115 => ⟨S1x4096x32, .f32⟩
  | 116 => ⟨S_, .f32⟩
  | 117 => ⟨S1x4096x32, .f32⟩
  | 118 => ⟨S1x4096x32, .f32⟩
  | 119 => ⟨S4096x32, .f32⟩
  | 120 => ⟨S4096x32, .f32⟩
  | 121 => ⟨S1x4096x32, .f32⟩
  | 122 => ⟨S_, .f32⟩
  | 123 => ⟨S32, .f32⟩
  | 124 => ⟨S1x1x32, .f32⟩
  | 125 => ⟨S_, .f32⟩
  | 126 => ⟨S1x1x32, .f32⟩
  | 127 => ⟨S1x1x32, .f32⟩
  | _ => ⟨S1x4096x4096, .f32⟩

abbrev hbmTy0_1 (i : Nat) : BufTy := match i % 128 with
  | 0 => ⟨S_, .i32⟩
  | 1 => ⟨S_, .f32⟩
  | 2 => ⟨S32, .f32⟩
  | 3 => ⟨S1x1x32, .f32⟩
  | 4 => ⟨S_, .f32⟩
  | 5 => ⟨S1x1x32, .f32⟩
  | 6 => ⟨S1x1x32, .f32⟩
  | 7 => ⟨S1x4096x32, .f32⟩
  | 8 => ⟨S1x4096x32, .f32⟩
  | 9 => ⟨S1x4096x32, .f32⟩
  | 10 => ⟨S_, .f32⟩
  | 11 => ⟨S_, .f32⟩
  | 12 => ⟨S_, .f32⟩
  | 13 => ⟨S_, .f32⟩
  | 14 => ⟨S32, .f32⟩
  | 15 => ⟨S1x1x32, .f32⟩
  | 16 => ⟨S1x1x32, .f32⟩
  | 17 => ⟨S1x1x32, .f32⟩
  | 18 => ⟨S_, .f32⟩
  | 19 => ⟨S_, .i1⟩
  | 20 => ⟨S_, .f32⟩
  | 21 => ⟨S_, .f32⟩
  | 22 => ⟨S1x1x32, .f32⟩
  | 23 => ⟨S1x1x32, .f32⟩
  | 24 => ⟨S1x4096x32, .f32⟩
  | 25 => ⟨S1x4096x32, .f32⟩
  | 26 => ⟨S1x1x32, .f32⟩
  | 27 => ⟨S1x4096x32, .f32⟩
  | 28 => ⟨S1x4096x32, .f32⟩
  | 29 => ⟨S_, .f32⟩
  | 30 => ⟨S1x1x32, .f32⟩
  | 31 => ⟨S1x1x32, .f32⟩
  | 32 => ⟨S1x1x32, .f32⟩
  | 33 => ⟨S1x4096x32, .f32⟩
  | 34 => ⟨S1x4096x32, .f32⟩
  | 35 => ⟨S1x1x32, .f32⟩
  | 36 => ⟨S1x4096x32, .f32⟩
  | 37 => ⟨S1x4096x32, .f32⟩
  | 38 => ⟨S_, .f32⟩
  | 39 => ⟨S1x4096x32, .f32⟩
  | 40 => ⟨S1x4096x32, .f32⟩
  | 41 => ⟨S4096x32, .f32⟩
  | 42 => ⟨S1x32, .f32⟩
  | 43 => ⟨S1x22, .f32⟩
  | 44 => ⟨S4096x4096, .f32⟩
  | 45 => ⟨S4096x22, .f32⟩
  | 46 => ⟨S1x4096x4096, .f32⟩
  | 47 => ⟨S1x4096x22, .f32⟩
  | _ => ⟨S1x4096x4096, .f32⟩

abbrev hbmTy (i : Nat) : BufTy := match i / 128 with
  | 0 => hbmTy0_0 i
  | 1 => hbmTy0_1 i
  | _ => ⟨S1x4096x4096, .f32⟩

abbrev bufTy : (tb : Table) → Fin (tcTables nBuf tb) → BufTy
  | .hbm, ⟨i, _⟩ => hbmTy i
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S8x4096, .f32⟩
  | .local _ .vmem, ⟨4, _⟩ => ⟨S512x4096, .f32⟩
  | .local _ .vmem, ⟨5, _⟩ => ⟨S512x4096, .f32⟩
  | .local _ .vmem, ⟨6, _⟩ => ⟨S512x1, .f32⟩
  | .local _ .vmem, ⟨7, _⟩ => ⟨S512x1, .f32⟩
  | .local _ .vmem, ⟨8, _⟩ => ⟨S1x4096, .f32⟩
  | .local _ .vmem, ⟨9, _⟩ => ⟨S4096x128, .f32⟩
  | .local _ .vmem, ⟨10, _⟩ => ⟨S128x32, .f32⟩
  | .local _ .vmem, ⟨11, _⟩ => ⟨S512x4096, .bf16⟩
  | .local _ .vmem, ⟨12, _⟩ => ⟨S512x4096, .bf16⟩
  | .local _ .vmem, ⟨13, _⟩ => ⟨S4096x32, .f32⟩
  | .local _ .vmem, ⟨14, _⟩ => ⟨S4096x128, .f32⟩
  | .local _ .vmem, ⟨15, _⟩ => ⟨S4096x128, .bf16⟩
  | .local _ .vmem, ⟨16, _⟩ => ⟨S512x4096, .bf16⟩
  | .local _ .vmem, ⟨17, _⟩ => ⟨S512x4096, .bf16⟩
  | .local _ .vmem, ⟨18, _⟩ => ⟨S4096x32, .f32⟩
  | .local _ .vmem, ⟨19, _⟩ => ⟨S32x32, .f32⟩
  | .local _ .vmem, ⟨20, _⟩ => ⟨S4096x32, .f32⟩
  | .local _ .vmem, ⟨21, _⟩ => ⟨S4096x32, .f32⟩
  | .local _ .vmem, ⟨22, _⟩ => ⟨S4096x32, .bf16⟩
  | .local _ .vmem, ⟨23, _⟩ => ⟨S512x4096, .bf16⟩
  | .local _ .vmem, ⟨24, _⟩ => ⟨S512x4096, .bf16⟩
  | .local _ .vmem, ⟨25, _⟩ => ⟨S4096x32, .f32⟩
  | .local _ .vmem, ⟨26, _⟩ => ⟨S32x32, .f32⟩
  | .local _ .vmem, ⟨27, _⟩ => ⟨S4096x32, .f32⟩
  | .local _ .vmem, ⟨28, _⟩ => ⟨S4096x32, .f32⟩
  | .local _ .vmem, ⟨29, _⟩ => ⟨S4096x32, .bf16⟩
  | .local _ .vmem, ⟨30, _⟩ => ⟨S4096x32, .f32⟩
  | .local _ .vmem, ⟨31, _⟩ => ⟨S4096x32, .f32⟩
  | .local _ .vmem, ⟨32, _⟩ => ⟨S4096x32, .f32⟩
  | .local _ .vmem, ⟨33, _⟩ => ⟨S96x32, .f32⟩
  | .local _ .vmem, ⟨34, _⟩ => ⟨S1x32, .f32⟩
  | .local _ .vmem, ⟨35, _⟩ => ⟨S96x22, .f32⟩
  | .local _ .vmem, ⟨36, _⟩ => ⟨S1x22, .f32⟩
  | .local _ .vmem, ⟨37, _⟩ => ⟨S512x4096, .f32⟩
  | .local _ .vmem, ⟨38, _⟩ => ⟨S512x4096, .f32⟩
  | .local _ .vmem, ⟨39, _⟩ => ⟨S4096x22, .f32⟩
  | .local _ .vmem, ⟨40, _⟩ => ⟨S4096x32, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_cst_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_cst_2 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_cst_3 : Ref sig .tc := ⟨.hbm, 46, rfl⟩
abbrev main_call0_v13 : Ref sig .tc := ⟨.hbm, 47, rfl⟩
abbrev main_call0_cst_4 : Ref sig .tc := ⟨.hbm, 48, rfl⟩
abbrev main_call0_call0_v0 : Ref sig .tc := ⟨.hbm, 49, rfl⟩
abbrev main_call0_call0_v1 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_cst_1 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_call1_cst : Ref sig .tc := ⟨.hbm, 66, rfl⟩
abbrev main_call1_v0 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst_2 : Ref sig .tc := ⟨.hbm, 72, rfl⟩
abbrev main_v28 : Ref sig .tc := ⟨.hbm, 73, rfl⟩
abbrev main_v29 : Ref sig .tc := ⟨.hbm, 74, rfl⟩
abbrev main_cst_3 : Ref sig .tc := ⟨.hbm, 75, rfl⟩
abbrev main_v30 : Ref sig .tc := ⟨.hbm, 76, rfl⟩
abbrev main_v31 : Ref sig .tc := ⟨.hbm, 77, rfl⟩
abbrev main_c_4 : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_cst_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_cst_1 : Ref sig .tc := ⟨.hbm, 89, rfl⟩
abbrev main_call2_v8 : Ref sig .tc := ⟨.hbm, 90, rfl⟩
abbrev main_call2_cst_2 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_v12 : Ref sig .tc := ⟨.hbm, 95, rfl⟩
abbrev main_call2_cst_3 : Ref sig .tc := ⟨.hbm, 96, rfl⟩
abbrev main_call2_v13 : Ref sig .tc := ⟨.hbm, 97, rfl⟩
abbrev main_call2_cst_4 : Ref sig .tc := ⟨.hbm, 98, rfl⟩
abbrev main_call2_call0_v0 : Ref sig .tc := ⟨.hbm, 99, rfl⟩
abbrev main_call2_call0_v1 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_cst_5 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_call3_cst : Ref sig .tc := ⟨.hbm, 116, rfl⟩
abbrev main_call3_v0 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_cst_6 : Ref sig .tc := ⟨.hbm, 122, rfl⟩
abbrev main_v50 : Ref sig .tc := ⟨.hbm, 123, rfl⟩
abbrev main_v51 : Ref sig .tc := ⟨.hbm, 124, rfl⟩
abbrev main_cst_7 : Ref sig .tc := ⟨.hbm, 125, rfl⟩
abbrev main_v52 : Ref sig .tc := ⟨.hbm, 126, rfl⟩
abbrev main_v53 : Ref sig .tc := ⟨.hbm, 127, rfl⟩
abbrev main_c_8 : Ref sig .tc := ⟨.hbm, 128, rfl⟩
abbrev main_call4_cst : Ref sig .tc := ⟨.hbm, 129, rfl⟩
abbrev main_call4_v0 : Ref sig .tc := ⟨.hbm, 130, rfl⟩
abbrev main_call4_v1 : Ref sig .tc := ⟨.hbm, 131, rfl⟩
abbrev main_call4_cst_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_v6 : Ref sig .tc := ⟨.hbm, 137, rfl⟩
abbrev main_call4_v7 : Ref sig .tc := ⟨.hbm, 138, rfl⟩
abbrev main_call4_cst_1 : Ref sig .tc := ⟨.hbm, 139, rfl⟩
abbrev main_call4_v8 : Ref sig .tc := ⟨.hbm, 140, rfl⟩
abbrev main_call4_cst_2 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_v12 : Ref sig .tc := ⟨.hbm, 145, rfl⟩
abbrev main_call4_cst_3 : Ref sig .tc := ⟨.hbm, 146, rfl⟩
abbrev main_call4_v13 : Ref sig .tc := ⟨.hbm, 147, rfl⟩
abbrev main_call4_cst_4 : Ref sig .tc := ⟨.hbm, 148, rfl⟩
abbrev main_call4_call0_v0 : Ref sig .tc := ⟨.hbm, 149, rfl⟩
abbrev main_call4_call0_v1 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_cst_9 : Ref sig .tc := ⟨.hbm, 157, rfl⟩
abbrev main_v60 : Ref sig .tc := ⟨.hbm, 158, rfl⟩
abbrev main_v61 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩
abbrev main_v67 : Ref sig .tc := ⟨.hbm, 165, rfl⟩
abbrev main_call5_cst : Ref sig .tc := ⟨.hbm, 166, rfl⟩
abbrev main_call5_v0 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72_0 : Ref sig .tc := ⟨.hbm, 172, rfl⟩
abbrev main_v72_1 : Ref sig .tc := ⟨.hbm, 173, rfl⟩
abbrev main_v73 : Ref sig .tc := ⟨.hbm, 174, rfl⟩
abbrev main_v74 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_scratch0 : Ref sig .tc := ⟨.vmem, 21, rfl⟩
abbrev cc2_scratch1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_scratch0 : Ref sig .tc := ⟨.vmem, 28, rfl⟩
abbrev cc3_scratch1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg7_0 : Ref sig .tc := ⟨.vmem, 37, rfl⟩
abbrev cc4_stg7_1 : Ref sig .tc := ⟨.vmem, 38, rfl⟩
abbrev cc4_stg8_0 : Ref sig .tc := ⟨.vmem, 39, rfl⟩
abbrev cc4_scratch0 : Ref sig .tc := ⟨.vmem, 40, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc1_sem6_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc4_sem0_0 : DmaSem sig := 23
abbrev cc4_sem1_0 : DmaSem sig := 24
abbrev cc4_sem2_0 : DmaSem sig := 25
abbrev cc4_sem3_0 : DmaSem sig := 26
abbrev cc4_sem4_0 : DmaSem sig := 27
abbrev cc4_sem5_0 : DmaSem sig := 28
abbrev cc4_sem6_0 : DmaSem sig := 29
abbrev cc4_sem7_0 : DmaSem sig := 30
abbrev cc4_sem7_1 : DmaSem sig := 31
abbrev cc4_sem8_0 : DmaSem sig := 32

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v590 : BitVec 1 := Scalar.cmpi .eq arg0 c7_i32
  let v591 : BitVec 32 := Scalar.extui v590
  let c0_i32_134 : BitVec 32 := 0#32
  let v592 : BitVec 1 := Scalar.cmpi .ne v591 c0_i32_134
  v592

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![8], ![false]⟩

def k1_off1 (i : grid1.Coords) : Fin 2 → Nat :=
  let arg0 : BitVec 32 := BitVec.ofNat 32 (i 0).val
  let c512_i32_12 : BitVec 32 := 512#32
  let v27 : BitVec 32 := Scalar.muli arg0 c512_i32_12
  let v28 : Index := Scalar.indexCast v27
  let c0_13 : Index := 0#32
  ![v28.toNat, 0]
def k1_cond2 (i : grid1.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_14 : BitVec 32 := 0#32
  let v34 : BitVec 1 := Scalar.cmpi .ne v33 c0_i32_14
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x4096 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S4096x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![8], ![false]⟩

def k2_off1 (i : grid2.Coords) : Fin 2 → Nat :=
  let arg0 : BitVec 32 := BitVec.ofNat 32 (i 0).val
  let c512_i32 : BitVec 32 := 512#32
  let v7 : BitVec 32 := Scalar.muli arg0 c512_i32
  let v8 : Index := Scalar.indexCast v7
  let c0_4 : Index := 0#32
  ![v8.toNat, 0]
def k2_cond2 (i : grid2.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_5 : BitVec 32 := 0#32
  let v14 : BitVec 1 := Scalar.cmpi .ne v13 c0_i32_5
  v14

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![8], ![false]⟩

def k3_off1 (i : grid3.Coords) : Fin 2 → Nat :=
  let arg0 : BitVec 32 := BitVec.ofNat 32 (i 0).val
  let c512_i32 : BitVec 32 := 512#32
  let v7 : BitVec 32 := Scalar.muli arg0 c512_i32
  let v8 : Index := Scalar.indexCast v7
  let c0_4 : Index := 0#32
  ![v8.toNat, 0]
def k3_cond2 (i : grid3.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_5 : BitVec 32 := 0#32
  let v14 : BitVec 1 := Scalar.cmpi .ne v13 c0_i32_5
  v14

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4096x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![8], ![false]⟩

def k4_off1 (i : grid4.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def k4_cond1 (i : grid4.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S4096x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S4096x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S4096x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S96x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S96x22 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x22 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S512x4096 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S4096x22 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]
-- ==== ReferenceIdeal.lean ====
abbrev S1x4096x4096 : Shape := ⟨3, ![1, 4096, 4096]⟩
abbrev S1x4096x128 : Shape := ⟨3, ![1, 4096, 128]⟩
abbrev S128x32 : Shape := ⟨2, ![128, 32]⟩
abbrev S32 : Shape := ⟨1, ![32]⟩
abbrev S32x32 : Shape := ⟨2, ![32, 32]⟩
abbrev S96x32 : Shape := ⟨2, ![96, 32]⟩
abbrev S96x22 : Shape := ⟨2, ![96, 22]⟩
abbrev S22 : Shape := ⟨1, ![22]⟩
abbrev S4096x4096 : Shape := ⟨2, ![4096, 4096]⟩
abbrev S_ : Shape := ⟨0, ![]⟩
abbrev S1x4096 : Shape := ⟨2, ![1, 4096]⟩
abbrev S1x4096x1 : Shape := ⟨3, ![1, 4096, 1]⟩
abbrev S1x1x4096 : Shape := ⟨3, ![1, 1, 4096]⟩
abbrev S1x4096x32 : Shape := ⟨3, ![1, 4096, 32]⟩
abbrev S1x1x32 : Shape := ⟨3, ![1, 1, 32]⟩
abbrev S1x4096x96 : Shape := ⟨3, ![1, 4096, 96]⟩
abbrev S1x4096x22 : Shape := ⟨3, ![1, 4096, 22]⟩
abbrev S1x1x22 : Shape := ⟨3, ![1, 1, 22]⟩

abbrev nBuf : Space → Nat
  | .hbm => 218
  | .vmem => 0
  | .smem => 0
  | _ => 0

abbrev hbmTy0_0 (i : Nat) : BufTy := match i % 128 with
  | 0 => ⟨S1x4096x4096, .f32⟩
  | 1 => ⟨S1x4096x128, .f32⟩
  | 2 => ⟨S128x32, .f32⟩
  | 3 => ⟨S32, .f32⟩
  | 4 => ⟨S32, .f32⟩
  | 5 => ⟨S32x32, .f32⟩
  | 6 => ⟨S32, .f32⟩
  | 7 => ⟨S32, .f32⟩
  | 8 => ⟨S32x32, .f32⟩
  | 9 => ⟨S32, .f32⟩
  | 10 => ⟨S32, .f32⟩
  | 11 => ⟨S96x32, .f32⟩
  | 12 => ⟨S32, .f32⟩
  | 13 => ⟨S96x22, .f32⟩
  | 14 => ⟨S22, .f32⟩
  | 15 => ⟨S4096x4096, .i32⟩
  | 16 => ⟨S4096x4096, .i32⟩
  | 17 => ⟨S_, .i32⟩
  | 18 => ⟨S4096x4096, .i32⟩
  | 19 => ⟨S4096x4096, .i32⟩
  | 20 => ⟨S4096x4096, .i1⟩
  | 21 => ⟨S4096x4096, .f32⟩
  | 22 => ⟨S1x4096x4096, .f32⟩
  | 23 => ⟨S1x4096x4096, .f32⟩
  | 24 => ⟨S_, .f32⟩
  | 25 => ⟨S1x4096, .f32⟩
  | 26 => ⟨S_, .f32⟩
  | 27 => ⟨S1x4096, .f32⟩
  | 28 => ⟨S1x4096, .f32⟩
  | 29 => ⟨S_, .f32⟩
  | 30 => ⟨S1x4096, .f32⟩
  | 31 => ⟨S1x4096, .f32⟩
  | 32 => ⟨S1x4096x1, .f32⟩
  | 33 => ⟨S1x4096x4096, .f32⟩
  | 34 => ⟨S1x4096x4096, .f32⟩
  | 35 => ⟨S1x1x4096, .f32⟩
  | 36 => ⟨S1x4096x4096, .f32⟩
  | 37 => ⟨S1x4096x4096, .f32⟩
  | 38 => ⟨S1x4096x128, .f32⟩
  | 39 => ⟨S1x4096x32, .f32⟩
  | 40 => ⟨S_, .f32⟩
  | 41 => ⟨S32, .f32⟩
  | 42 => ⟨S1x1x32, .f32⟩
  | 43 => ⟨S_, .f32⟩
  | 44 => ⟨S1x1x32, .f32⟩
  | 45 => ⟨S1x1x32, .f32⟩
  | 46 => ⟨S_, .i32⟩
  | 47 => ⟨S_, .f32⟩
  | 48 => ⟨S32, .f32⟩
  | 49 => ⟨S1x1x32, .f32⟩
  | 50 => ⟨S_, .f32⟩
  | 51 => ⟨S1x1x32, .f32⟩
  | 52 => ⟨S1x1x32, .f32⟩
  | 53 => ⟨S1x4096x32, .f32⟩
  | 54 => ⟨S1x4096x32, .f32⟩
  | 55 => ⟨S1x4096x32, .f32⟩
  | 56 => ⟨S_, .f32⟩
  | 57 => ⟨S_, .f32⟩
  | 58 => ⟨S_, .f32⟩
  | 59 => ⟨S_, .f32⟩
  | 60 => ⟨S32, .f32⟩
  | 61 => ⟨S1x1x32, .f32⟩
  | 62 => ⟨S1x1x32, .f32⟩
  | 63 => ⟨S1x1x32, .f32⟩
  | 64 => ⟨S_, .f32⟩
  | 65 => ⟨S_, .i1⟩
  | 66 => ⟨S_, .f32⟩
  | 67 => ⟨S_, .f32⟩
  | 68 => ⟨S1x1x32, .f32⟩
  | 69 => ⟨S1x1x32, .f32⟩
  | 70 => ⟨S1x4096x32, .f32⟩
  | 71 => ⟨S1x4096x32, .f32⟩
  | 72 => ⟨S1x1x32, .f32⟩
  | 73 => ⟨S1x4096x32, .f32⟩
  | 74 => ⟨S1x4096x32, .f32⟩
  | 75 => ⟨S_, .f32⟩
  | 76 => ⟨S1x1x32, .f32⟩
  | 77 => ⟨S1x1x32, .f32⟩
  | 78 => ⟨S1x1x32, .f32⟩
  | 79 => ⟨S1x4096x32, .f32⟩
  | 80 => ⟨S1x4096x32, .f32⟩
  | 81 => ⟨S1x1x32, .f32⟩
  | 82 => ⟨S1x4096x32, .f32⟩
  | 83 => ⟨S1x4096x32, .f32⟩
  | 84 => ⟨S_, .f32⟩
  | 85 => ⟨S1x4096x32, .f32⟩
  | 86 => ⟨S1x4096x32, .f32⟩
  | 87 => ⟨S1x4096x32, .f32⟩
  | 88 => ⟨S1x4096x32, .f32⟩
  | 89 => ⟨S_, .f32⟩
  | 90 => ⟨S32, .f32⟩
  | 91 => ⟨S1x1x32, .f32⟩
  | 92 => ⟨S_, .f32⟩
  | 93 => ⟨S1x1x32, .f32⟩
  | 94 => ⟨S1x1x32, .f32⟩
  | 95 => ⟨S_, .i32⟩
  | 96 => ⟨S_, .f32⟩
  | 97 => ⟨S32, .f32⟩
  | 98 => ⟨S1x1x32, .f32⟩
  | 99 => ⟨S_, .f32⟩
  | 100 => ⟨S1x1x32, .f32⟩
  | 101 => ⟨S1x1x32, .f32⟩
  | 102 => ⟨S1x4096x32, .f32⟩
  | 103 => ⟨S1x4096x32, .f32⟩
  | 104 => ⟨S1x4096x32, .f32⟩
  | 105 => ⟨S_, .f32⟩
  | 106 => ⟨S_, .f32⟩
  | 107 => ⟨S_, .f32⟩
  | 108 => ⟨S_, .f32⟩
  | 109 => ⟨S32, .f32⟩
  | 110 => ⟨S1x1x32, .f32⟩
  | 111 => ⟨S1x1x32, .f32⟩
  | 112 => ⟨S1x1x32, .f32⟩
  | 113 => ⟨S_, .f32⟩
  | 114 => ⟨S_, .i1⟩
  | 115 => ⟨S_, .f32⟩
  | 116 => ⟨S_, .f32⟩
  | 117 => ⟨S1x1x32, .f32⟩
  | 118 => ⟨S1x1x32, .f32⟩
  | 119 => ⟨S1x4096x32, .f32⟩
  | 120 => ⟨S1x4096x32, .f32⟩
  | 121 => ⟨S1x1x32, .f32⟩
  | 122 => ⟨S1x4096x32, .f32⟩
  | 123 => ⟨S1x4096x32, .f32⟩
  | 124 => ⟨S_, .f32⟩
  | 125 => ⟨S1x1x32, .f32⟩
  | 126 => ⟨S1x1x32, .f32⟩
  | 127 => ⟨S1x1x32, .f32⟩
  | _ => ⟨S1x4096x4096, .f32⟩

abbrev hbmTy0_1 (i : Nat) : BufTy := match i % 128 with
  | 0 => ⟨S1x4096x32, .f32⟩
  | 1 => ⟨S1x4096x32, .f32⟩
  | 2 => ⟨S1x1x32, .f32⟩
  | 3 => ⟨S1x4096x32, .f32⟩
  | 4 => ⟨S1x4096x32, .f32⟩
  | 5 => ⟨S_, .f32⟩
  | 6 => ⟨S1x4096x32, .f32⟩
  | 7 => ⟨S1x4096x32, .f32⟩
  | 8 => ⟨S1x4096x32, .f32⟩
  | 9 => ⟨S1x4096x32, .f32⟩
  | 10 => ⟨S_, .f32⟩
  | 11 => ⟨S32, .f32⟩
  | 12 => ⟨S1x1x32, .f32⟩
  | 13 => ⟨S_, .f32⟩
  | 14 => ⟨S1x1x32, .f32⟩
  | 15 => ⟨S1x1x32, .f32⟩
  | 16 => ⟨S_, .i32⟩
  | 17 => ⟨S_, .f32⟩
  | 18 => ⟨S32, .f32⟩
  | 19 => ⟨S1x1x32, .f32⟩
  | 20 => ⟨S_, .f32⟩
  | 21 => ⟨S1x1x32, .f32⟩
  | 22 => ⟨S1x1x32, .f32⟩
  | 23 => ⟨S1x4096x32, .f32⟩
  | 24 => ⟨S1x4096x32, .f32⟩
  | 25 => ⟨S1x4096x32, .f32⟩
  | 26 => ⟨S_, .f32⟩
  | 27 => ⟨S_, .f32⟩
  | 28 => ⟨S_, .f32⟩
  | 29 => ⟨S_, .f32⟩
  | 30 => ⟨S32, .f32⟩
  | 31 => ⟨S1x1x32, .f32⟩
  | 32 => ⟨S1x1x32, .f32⟩
  | 33 => ⟨S1x1x32, .f32⟩
  | 34 => ⟨S_, .f32⟩
  | 35 => ⟨S_, .i1⟩
  | 36 => ⟨S_, .f32⟩
  | 37 => ⟨S_, .f32⟩
  | 38 => ⟨S1x1x32, .f32⟩
  | 39 => ⟨S1x1x32, .f32⟩
  | 40 => ⟨S1x4096x32, .f32⟩
  | 41 => ⟨S1x4096x32, .f32⟩
  | 42 => ⟨S1x1x32, .f32⟩
  | 43 => ⟨S1x4096x32, .f32⟩
  | 44 => ⟨S1x4096x32, .f32⟩
  | 45 => ⟨S_, .f32⟩
  | 46 => ⟨S1x1x32, .f32⟩
  | 47 => ⟨S1x1x32, .f32⟩
  | 48 => ⟨S1x1x32, .f32⟩
  | 49 => ⟨S1x4096x32, .f32⟩
  | 50 => ⟨S1x4096x32, .f32⟩
  | 51 => ⟨S1x1x32, .f32⟩
  | 52 => ⟨S1x4096x32, .f32⟩
  | 53 => ⟨S1x4096x32, .f32⟩
  | 54 => ⟨S_, .f32⟩
  | 55 => ⟨S1x4096x32, .f32⟩
  | 56 => ⟨S1x4096x32, .f32⟩
  | 57 => ⟨S1x4096x96, .f32⟩
  | 58 => ⟨S1x4096x32, .f32⟩
  | 59 => ⟨S1x1x32, .f32⟩
  | 60 => ⟨S1x4096x32, .f32⟩
  | 61 => ⟨S1x4096x32, .f32⟩
  | 62 => ⟨S1x4096x4096, .f32⟩
  | 63 => ⟨S1x4096x4096, .f32⟩
  | 64 => ⟨S1x4096x4096, .f32⟩
  | 65 => ⟨S_, .f32⟩
  | 66 => ⟨S1x4096x4096, .f32⟩
  | 67 => ⟨S1x4096x4096, .f32⟩
  | 68 => ⟨S_, .f32⟩
  | 69 => ⟨S1x4096x4096, .f32⟩
  | 70 => ⟨S1x4096x4096, .f32⟩
  | 71 => ⟨S1x4096x22, .f32⟩
  | 72 => ⟨S1x1x22, .f32⟩
  | 73 => ⟨S1x4096x22, .f32⟩
  | 74 => ⟨S1x4096x22, .f32⟩
  | 75 => ⟨S_, .f32⟩
  | 76 => ⟨S1x4096, .f32⟩
  | 77 => ⟨S_, .f32⟩
  | 78 => ⟨S1x4096, .f32⟩
  | 79 => ⟨S1x4096, .f32⟩
  | 80 => ⟨S1x4096x1, .f32⟩
  | 81 => ⟨S1x4096x22, .f32⟩
  | 82 => ⟨S1x4096x22, .f32⟩
  | 83 => ⟨S1x4096x22, .f32⟩
  | 84 => ⟨S_, .f32⟩
  | 85 => ⟨S1x4096, .f32⟩
  | 86 => ⟨S1x4096x1, .f32⟩
  | 87 => ⟨S1x4096x1, .f32⟩
  | 88 => ⟨S1x4096x22, .f32⟩
  | 89 => ⟨S1x4096x22, .f32⟩
  | _ => ⟨S1x4096x4096, .f32⟩

abbrev hbmTy (i : Nat) : BufTy := match i / 128 with
  | 0 => hbmTy0_0 i
  | 1 => hbmTy0_1 i
  | _ => ⟨S1x4096x4096, .f32⟩

abbrev bufTy : (tb : Table) → Fin (tcTables nBuf tb) → BufTy
  | .hbm, ⟨i, _⟩ => hbmTy i
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_cst_3 : Ref sig .tc := ⟨.hbm, 64, rfl⟩
abbrev main_call0_v13 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_cst_5 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_call1_cst : Ref sig .tc := ⟨.hbm, 84, rfl⟩
abbrev main_call1_v0 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_6 : Ref sig .tc := ⟨.hbm, 89, rfl⟩
abbrev main_v42 : Ref sig .tc := ⟨.hbm, 90, rfl⟩
abbrev main_v43 : Ref sig .tc := ⟨.hbm, 91, rfl⟩
abbrev main_cst_7 : Ref sig .tc := ⟨.hbm, 92, rfl⟩
abbrev main_v44 : Ref sig .tc := ⟨.hbm, 93, rfl⟩
abbrev main_v45 : Ref sig .tc := ⟨.hbm, 94, rfl⟩
abbrev main_c_8 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_cst_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_cst_1 : Ref sig .tc := ⟨.hbm, 106, rfl⟩
abbrev main_call2_v8 : Ref sig .tc := ⟨.hbm, 107, rfl⟩
abbrev main_call2_cst_2 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_v12 : Ref sig .tc := ⟨.hbm, 112, rfl⟩
abbrev main_call2_cst_3 : Ref sig .tc := ⟨.hbm, 113, rfl⟩
abbrev main_call2_v13 : Ref sig .tc := ⟨.hbm, 114, rfl⟩
abbrev main_call2_cst_4 : Ref sig .tc := ⟨.hbm, 115, rfl⟩
abbrev main_call2_call0_v0 : Ref sig .tc := ⟨.hbm, 116, rfl⟩
abbrev main_call2_call0_v1 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_cst_9 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_call3_cst : Ref sig .tc := ⟨.hbm, 133, rfl⟩
abbrev main_call3_v0 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_cst_10 : Ref sig .tc := ⟨.hbm, 138, rfl⟩
abbrev main_v63 : Ref sig .tc := ⟨.hbm, 139, rfl⟩
abbrev main_v64 : Ref sig .tc := ⟨.hbm, 140, rfl⟩
abbrev main_cst_11 : Ref sig .tc := ⟨.hbm, 141, rfl⟩
abbrev main_v65 : Ref sig .tc := ⟨.hbm, 142, rfl⟩
abbrev main_v66 : Ref sig .tc := ⟨.hbm, 143, rfl⟩
abbrev main_c_12 : Ref sig .tc := ⟨.hbm, 144, rfl⟩
abbrev main_call4_cst : Ref sig .tc := ⟨.hbm, 145, rfl⟩
abbrev main_call4_v0 : Ref sig .tc := ⟨.hbm, 146, rfl⟩
abbrev main_call4_v1 : Ref sig .tc := ⟨.hbm, 147, rfl⟩
abbrev main_call4_cst_0 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_v6 : Ref sig .tc := ⟨.hbm, 153, rfl⟩
abbrev main_call4_v7 : Ref sig .tc := ⟨.hbm, 154, rfl⟩
abbrev main_call4_cst_1 : Ref sig .tc := ⟨.hbm, 155, rfl⟩
abbrev main_call4_v8 : Ref sig .tc := ⟨.hbm, 156, rfl⟩
abbrev main_call4_cst_2 : Ref sig .tc := ⟨.hbm, 157, rfl⟩
abbrev main_call4_v9 : Ref sig .tc := ⟨.hbm, 158, rfl⟩
abbrev main_call4_v10 : Ref sig .tc := ⟨.hbm, 159, rfl⟩
abbrev main_call4_v11 : Ref sig .tc := ⟨.hbm, 160, rfl⟩
abbrev main_call4_v12 : Ref sig .tc := ⟨.hbm, 161, rfl⟩
abbrev main_call4_cst_3 : Ref sig .tc := ⟨.hbm, 162, rfl⟩
abbrev main_call4_v13 : Ref sig .tc := ⟨.hbm, 163, rfl⟩
abbrev main_call4_cst_4 : Ref sig .tc := ⟨.hbm, 164, rfl⟩
abbrev main_call4_call0_v0 : Ref sig .tc := ⟨.hbm, 165, rfl⟩
abbrev main_call4_call0_v1 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_cst_13 : Ref sig .tc := ⟨.hbm, 173, rfl⟩
abbrev main_v73 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_call5_cst : Ref sig .tc := ⟨.hbm, 182, rfl⟩
abbrev main_call5_v0 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_v88 : Ref sig .tc := ⟨.hbm, 191, rfl⟩
abbrev main_v89 : Ref sig .tc := ⟨.hbm, 192, rfl⟩
abbrev main_cst_14 : Ref sig .tc := ⟨.hbm, 193, rfl⟩
abbrev main_v90 : Ref sig .tc := ⟨.hbm, 194, rfl⟩
abbrev main_v91 : Ref sig .tc := ⟨.hbm, 195, rfl⟩
abbrev main_cst_15 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_call6_cst : Ref sig .tc := ⟨.hbm, 203, rfl⟩
abbrev main_call6_v0 : Ref sig .tc := ⟨.hbm, 204, rfl⟩
abbrev main_call6_cst_0 : Ref sig .tc := ⟨.hbm, 205, rfl⟩
abbrev main_call6_v1 : Ref sig .tc := ⟨.hbm, 206, rfl⟩
abbrev main_call6_v2 : Ref sig .tc := ⟨.hbm, 207, rfl⟩
abbrev main_call6_v3 : Ref sig .tc := ⟨.hbm, 208, rfl⟩
abbrev main_call6_v4 : Ref sig .tc := ⟨.hbm, 209, rfl⟩
abbrev main_call6_v5 : Ref sig .tc := ⟨.hbm, 210, rfl⟩
abbrev main_call6_v6 : Ref sig .tc := ⟨.hbm, 211, rfl⟩
abbrev main_call6_cst_1 : Ref sig .tc := ⟨.hbm, 212, rfl⟩
abbrev main_call6_v7 : Ref sig .tc := ⟨.hbm, 213, rfl⟩
abbrev main_call6_v8 : Ref sig .tc := ⟨.hbm, 214, rfl⟩
abbrev main_call6_v9 : Ref sig .tc := ⟨.hbm, 215, rfl⟩
abbrev main_call6_v10 : Ref sig .tc := ⟨.hbm, 216, rfl⟩
abbrev main_v98 : Ref sig .tc := ⟨.hbm, 217, rfl⟩

abbrev nD : Nat := 1
abbrev τ : Topo := Topo.v7x

variable {F : FTy → Type} [FloatOps F]
-- ==== Proof.KBase.lean ====
module

public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

section Whole

variable {sig : RefSig} {κ : Kind} {sp : Space} {e : EltTy} {Val : EltTy → Type} {a b : ℕ}

/-- A load of a whole rank-2 buffer, its sizes written out, reads the buffer. -/
theorem readAt_all (v : View sig κ sp ⟨2, ![a, b]⟩ e) (f : v.ty.Contents Val) {off : Fin 2 → ℕ} (inb : ∀ i : Fin 2, off i + ![a, b] i ≤ ![a, b] i) :
    v.readAt Val (Rect.unit (s := ⟨2, ![a, b]⟩) off ![a, b] inb).toLoadRect f = v.read Val f :=
  View.readAt_full v f inb

/-- A store of a whole rank-2 buffer, its sizes written out, leaves the payload. -/
theorem read_writes_all (v : View sig κ sp ⟨2, ![a, b]⟩ e) (f : v.ty.Contents Val) {off : Fin 2 → ℕ} (inb : ∀ i : Fin 2, off i + ![a, b] i ≤ ![a, b] i)
    (w : (Rect.unit (s := ⟨2, ![a, b]⟩) off ![a, b] inb).shape.Idx → Val e) (L : List (View.Piece Val ⟨2, ![a, b]⟩ e)) :
    v.read Val (v.writes Val f (⟨Rect.unit (s := ⟨2, ![a, b]⟩) off ![a, b] inb, w⟩ :: L)) = w :=
  View.read_writes_full v f inb w L

/-- A load of a whole rank-2 buffer just stored whole reads the payload. -/
theorem readCov_all [∀ e, Nonempty (Val e)] (v : View sig κ sp ⟨2, ![a, b]⟩ e) {off off' : Fin 2 → ℕ} (inb : ∀ i : Fin 2, off i + ![a, b] i ≤ ![a, b] i)
    (inb' : ∀ i : Fin 2, off' i + ![a, b] i ≤ ![a, b] i) (w : (Rect.unit (s := ⟨2, ![a, b]⟩) off' ![a, b] inb').shape.Idx → Val e)
    (L : List (View.Piece Val ⟨2, ![a, b]⟩ e)) :
    v.readCov (⟨Rect.unit (s := ⟨2, ![a, b]⟩) off' ![a, b] inb', w⟩ :: L) (Rect.unit (s := ⟨2, ![a, b]⟩) off ![a, b] inb).toLoadRect = w :=
  View.readCov_full v inb inb' w L

/-- A load of a window of a rank-2 buffer reads a window of what the buffer reads. -/
theorem readAt_win (v : View sig κ sp ⟨2, ![a, b]⟩ e) (f : v.ty.Contents Val) {off : Fin 2 → ℕ} {a' b' : ℕ}
    (inb : ∀ i : Fin 2, off i + ![a', b'] i ≤ ![a, b] i) :
    v.readAt Val (Rect.unit (s := ⟨2, ![a, b]⟩) off ![a', b'] inb).toLoadRect f
      = VecWindow.window (s := ⟨2, ![a, b]⟩) (v.read Val f) off ![a', b'] inb :=
  View.readAt_unit v f inb rfl inb

/-- A load of a window of a rank-2 buffer just stored whole reads a window of the payload. -/
theorem readCov_win [∀ e, Nonempty (Val e)] (v : View sig κ sp ⟨2, ![a, b]⟩ e) {off off' : Fin 2 → ℕ} {a' b' : ℕ}
    (inb : ∀ i : Fin 2, off i + ![a', b'] i ≤ ![a, b] i)
    (inb' : ∀ i : Fin 2, off' i + ![a, b] i ≤ ![a, b] i) (w : (Rect.unit (s := ⟨2, ![a, b]⟩) off' ![a, b] inb').shape.Idx → Val e)
    (L : List (View.Piece Val ⟨2, ![a, b]⟩ e)) :
    v.readCov (⟨Rect.unit (s := ⟨2, ![a, b]⟩) off' ![a, b] inb', w⟩ :: L) (Rect.unit (s := ⟨2, ![a, b]⟩) off ![a', b'] inb).toLoadRect
      = VecWindow.window (s := ⟨2, ![a, b]⟩) w off ![a', b'] inb := by
  refine (View.readAt_unit v _ inb rfl inb).trans ?_
  exact congrArg (fun x => VecWindow.window (s := ⟨2, ![a, b]⟩) x off ![a', b'] inb) (read_writes_all v _ inb' w L)

/-- Putting a window of the whole rank-2 shape leaves the window. -/
theorem put_all {α : Type} (x : (⟨2, ![a, b]⟩ : Shape).Idx → α) {off : Fin 2 → ℕ} (h0 : ∀ i, off i = 0) (w : ((i : Fin 2) → Fin (![a, b] i)) → α) :
    VecWindow.put (s := ⟨2, ![a, b]⟩) x off ![a, b] w = w := by
  funext y
  have h : ∀ i : Fin 2, off i ≤ (y i).val ∧ (y i).val < off i + ![a, b] i := fun i => by
    have := (y i).isLt
    have e : (⟨2, ![a, b]⟩ : Shape).size i = ![a, b] i := rfl
    rw [h0]; omega
  refine (dif_pos h).trans (congrArg w (funext fun i => Fin.ext ?_))
  show (y i).val - off i = (y i).val
  rw [h0]; rfl

theorem zero_off (i : Fin 2) : (![0, 0] : Fin 2 → ℕ) i = 0 := by
  fin_cases i <;> rfl

end Whole

end Cert.KernelIdeal.Hand
-- ==== Proof.KRun0.lean ====
module

public import proofs.«01_k».proof.Proof.KBase
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point is the first: the condition of the body's first branch. -/
abbrev first0 (i : grid0.Coords) : Prop := (Scalar.cmpi .ne (Scalar.extui (Scalar.cmpi .eq (BitVec.ofNat 32 (i 0).val) 0#32)) 0#32) = 1#1

/-- The accumulator the body starts the point from: zero at the first point, what the point before left after. -/
def start0 (i : grid0.Coords) (a : Vec F S8x4096 .f32) : Vec F S8x4096 .f32 :=
  if first0 i then k0_pay4 else a

/-- The running sum before the last row group of the point's block is added. -/
def part0 (i : grid0.Coords) (x0 : Vec F S512x4096 .f32) (a : Vec F S8x4096 .f32) : FVec F S8x4096 .f32 :=
  let v4 := k0_pay5 x0
  let v6 : IVec S8x4096 32 := iota .tc S8x4096 32 [1] iota_S8x4096_d1_w32
  let v10 := k0_pay6 i
  (k0_pay31 v4 v6 v10 (k0_pay29 v4 v6 v10 (k0_pay27 v4 v6 v10 (k0_pay25 v4 v6 v10 (k0_pay23 v4 v6 v10 (k0_pay21 v4 v6 v10 (k0_pay19 v4 v6 v10 (k0_pay17 v4 v6 v10 (k0_pay15 v4 v6 v10 (k0_pay13 v4 v6 v10 (k0_pay11 v4 v6 v10 (k0_pay9 v4 v6 v10 (k0_pay7 i x0 a) (k0_pay8 i)) (k0_pay10 v6 v10)) (k0_pay12 v6 v10)) (k0_pay14 v6 v10)) (k0_pay16 v6 v10)) (k0_pay18 v6 v10)) (k0_pay20 v6 v10)) (k0_pay22 v6 v10)) (k0_pay24 v6 v10)) (k0_pay26 v6 v10)) (k0_pay28 v6 v10)) (k0_pay30 v6 v10))

/-- Where the last row group meets the diagonal. -/
def diag0 (i : grid0.Coords) : IVec S8x4096 1 :=
  k0_pay32 (iota .tc S8x4096 32 [1] iota_S8x4096_d1_w32) (k0_pay6 i)

/-- The accumulator after the body at a point. -/
def acc0 (i : grid0.Coords) (x0 : Vec F S512x4096 .f32) (a : Vec F S8x4096 .f32) : Vec F S8x4096 .f32 :=
  k0_pay2 (k0_pay5 x0) (part0 i x0 (start0 i a)) (diag0 i)

/-- The result's staging buffer after the body at a point: the scale at the last point, untouched before. -/
def d0 (i : grid0.Coords) (x0 : Vec F S512x4096 .f32) (d : Vec F S1x4096 .f32) (a : Vec F S8x4096 .f32) : Vec F S1x4096 .f32 :=
  if k0_cond2 i = 1#1 then k0_pay3 (k0_pay5 x0) (part0 i x0 (start0 i a)) (diag0 i) else d

set_option maxHeartbeats 4000000 in
/-- The body at any point, on whole buffers at any contents. -/
theorem run0 (c : Dev nD) (i : grid0.Coords)
    (arg1 : Memref sig .tc .vmem S512x4096 .f32) (harg1 : arg1.IsWhole)
    (arg2 : Memref sig .tc .vmem S1x4096 .f32) (harg2 : arg2.IsWhole)
    (arg3 : Memref sig .tc .vmem S8x4096 .f32) (harg3 : arg3.IsWhole)
    (x0 : Vec F S512x4096 .f32)
    (d : Vec F S1x4096 .f32)
    (a : Vec F S8x4096 .f32)
    (E : Set ℕ) (K : PUnit → sProp 𝕄) :
    iprop(owns (c : Thread nD τ) arg1 fullShare x0
        ∗ owns (c : Thread nD τ) arg2 fullShare d
        ∗ owns (c : Thread nD τ) arg3 fullShare a
        ∗ (iprop(owns (c : Thread nD τ) arg1 fullShare x0
            ∗ owns (c : Thread nD τ) arg2 fullShare (d0 i x0 d a)
            ∗ owns (c : Thread nD τ) arg3 fullShare (acc0 i x0 a)) -∗ K ⟨⟩))
      ⊢ wp frame (wpE (defs₀ (F := F)) Variants.none c none) E (cc0__colsum_body i arg1 harg1 arg2 harg2 arg3 harg3) K := by
  simp only [cc0__colsum_body_eq_skeleton]; unfold cc0__colsum_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f1, %hf1, H1⟩, ⟨%f2, %hf2, H2⟩, ⟨%f3, %hf3, H3⟩, Hk⟩
  obtain rfl := harg1.eq_unread hf1
  obtain rfl := harg2.eq_unread hf2
  obtain rfl := harg3.eq_unread hf3
  clear hf1 hf2 hf3
  by_cases hc0 : first0 i <;> by_cases hc1 : k0_cond2 i = 1#1 <;>
    (sl_exec (disch := first | sl_exact hc0 | sl_exact hc1)
     sl_step
     iapply Hk
     isplitl [H1]
     · iexists _; isplitr; swap; · iexact H1
       ipureintro; exact harg1.read_unread _
     isplitl [H2]
     · iexists _; isplitr; swap; · iexact H2
       ipureintro
       sl_unfold_run_names
       simp only [readAt_all, readAt_win, read_writes_all, readCov_all, readCov_win, Memref.IsWhole.read_unread, View.read_writes_cons_put _ _ _ _ _ rfl, View.writes_nil, put_all _ zero_off] <;>
       (try simp only [d0, part0, diag0, start0]) <;>
       (try simp only [hc1, if_true, if_false]) <;>
       first | done | rfl | simp only [if_pos hc0] | simp only [if_neg hc0]
     iexists _; isplitr; swap; · iexact H3
     ipureintro
     sl_unfold_run_names
     simp only [readAt_all, readAt_win, read_writes_all, readCov_all, readCov_win, Memref.IsWhole.read_unread, View.read_writes_cons_put _ _ _ _ _ rfl, View.writes_nil, put_all _ zero_off] <;>
     (try simp only [acc0, part0, diag0, start0]) <;>
     (try simp only [hc1, if_true, if_false]) <;>
     first | done | rfl | simp only [if_pos hc0] | simp only [if_neg hc0])

end Cert.KernelIdeal.Hand
-- ==== Proof.KRun1.lean ====
module

public import proofs.«01_k».proof.Proof.KBase
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point is the first: the condition of the body's first branch. -/
abbrev first1 (i : grid1.Coords) : Prop := (Scalar.cmpi .ne (Scalar.extui (Scalar.cmpi .eq (BitVec.ofNat 32 (i 0).val) 0#32)) 0#32) = 1#1

/-- The half-width features after the body at a point: taken from the window at the first point, kept after. -/
def y1 (i : grid1.Coords) (x3 : Vec F S4096x128 .f32) (y : Vec F S4096x128 .bf16) : Vec F S4096x128 .bf16 :=
  if first1 i then k1_pay1 x3 else y

/-- The product's rows after the body at a point: this point's row block put over what was there. -/
def hp1 (i : grid1.Coords) (x0 : Vec F S512x4096 .f32) (x1 : Vec F S512x1 .f32) (x2 : Vec F S1x4096 .f32) (x3 : Vec F S4096x128 .f32)
    (hp : Vec F S4096x128 .f32) (y : Vec F S4096x128 .bf16) : Vec F S4096x128 .f32 :=
  VecWindow.put hp (k1_off1 i) S512x128.size (k1_pay3 i x0 x1 x2 (y1 i x3 y))

/-- The result's staging buffer after the body at a point: the product with the weights at the last point, untouched before. -/
def h1 (i : grid1.Coords) (x0 : Vec F S512x4096 .f32) (x1 : Vec F S512x1 .f32) (x2 : Vec F S1x4096 .f32) (x3 : Vec F S4096x128 .f32)
    (x4 : Vec F S128x32 .f32) (h : Vec F S4096x32 .f32) (hp : Vec F S4096x128 .f32) (y : Vec F S4096x128 .bf16) : Vec F S4096x32 .f32 :=
  if k1_cond2 i = 1#1 then k1_pay4 (hp1 i x0 x1 x2 x3 hp y) x4 else h

set_option maxHeartbeats 4000000 in
/-- The body at any point, on whole buffers at any contents: the inputs stay, the normalised block is left in its output, the rest moves as `h1`, `hp1`, `y1` say. -/
theorem run1 (c : Dev nD) (i : grid1.Coords)
    (arg1 : Memref sig .tc .vmem S512x4096 .f32) (harg1 : arg1.IsWhole)
    (arg2 : Memref sig .tc .vmem S512x1 .f32) (harg2 : arg2.IsWhole)
    (arg3 : Memref sig .tc .vmem S1x4096 .f32) (harg3 : arg3.IsWhole)
    (arg4 : Memref sig .tc .vmem S4096x128 .f32) (harg4 : arg4.IsWhole)
    (arg5 : Memref sig .tc .vmem S128x32 .f32) (harg5 : arg5.IsWhole)
    (arg6 : Memref sig .tc .vmem S512x4096 .bf16) (harg6 : arg6.IsWhole)
    (arg7 : Memref sig .tc .vmem S4096x32 .f32) (harg7 : arg7.IsWhole)
    (arg8 : Memref sig .tc .vmem S4096x128 .f32) (harg8 : arg8.IsWhole)
    (arg9 : Memref sig .tc .vmem S4096x128 .bf16) (harg9 : arg9.IsWhole)
    (x0 : Vec F S512x4096 .f32)
    (x1 : Vec F S512x1 .f32)
    (x2 : Vec F S1x4096 .f32)
    (x3 : Vec F S4096x128 .f32)
    (x4 : Vec F S128x32 .f32)
    (l : Vec F S512x4096 .bf16)
    (h : Vec F S4096x32 .f32)
    (hp : Vec F S4096x128 .f32)
    (y : Vec F S4096x128 .bf16)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare l
        ∗ owns (c : Thread nD τ) arg7 fullShare h
        ∗ owns (c : Thread nD τ) arg8 fullShare hp
        ∗ owns (c : Thread nD τ) arg9 fullShare y
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (k1_pay2 i x0 x1 x2)
            ∗ owns (c : Thread nD τ) arg7 fullShare (h1 i x0 x1 x2 x3 x4 h hp y)
            ∗ owns (c : Thread nD τ) arg8 fullShare (hp1 i x0 x1 x2 x3 hp y)
            ∗ owns (c : Thread nD τ) arg9 fullShare (y1 i x3 y)) -∗ K ⟨⟩))
      ⊢ wp frame (wpE (defs₀ (F := F)) Variants.none c none) E (cc1__layer1_body i arg1 harg1 arg2 harg2 arg3 harg3 arg4 harg4 arg5 harg5 arg6 harg6 arg7 harg7 arg8 harg8 arg9 harg9) K := by
  simp only [cc1__layer1_body_eq_skeleton]; unfold cc1__layer1_body_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  clear hf1 hf2 hf3 hf4 hf5 hf6 hf7 hf8 hf9
  by_cases hc0 : first1 i <;> by_cases hc1 : k1_cond2 i = 1#1 <;>
    (sl_exec (disch := first | sl_exact hc0 | sl_exact hc1)
     sl_step
     iapply Hk
     isplitl [H1]
     · iexists _; isplitr; swap; · iexact H1
       ipureintro; exact harg1.read_unread _
     isplitl [H2]
     · iexists _; isplitr; swap; · iexact H2
       ipureintro; exact harg2.read_unread _
     isplitl [H3]
     · iexists _; isplitr; swap; · iexact H3
       ipureintro; exact harg3.read_unread _
     isplitl [H4]
     · iexists _; isplitr; swap; · iexact H4
       ipureintro; exact harg4.read_unread _
     isplitl [H5]
     · iexists _; isplitr; swap; · iexact H5
       ipureintro; exact harg5.read_unread _
     isplitl [H6]
     · iexists _; isplitr; swap; · iexact H6
       ipureintro
       sl_unfold_run_names
       simp only [readAt_all, readAt_win, read_writes_all, readCov_all, readCov_win, Memref.IsWhole.read_unread, View.read_writes_cons_put _ _ _ _ _ rfl, View.writes_nil, put_all _ zero_off] <;>
       (try simp only [if_true]) <;>
       (try simp only [hc1, if_true, if_false]) <;>
       first | done | rfl | simp only [if_pos hc0] | simp only [if_neg hc0]
     isplitl [H7]
     · iexists _; isplitr; swap; · iexact H7
       ipureintro
       sl_unfold_run_names
       simp only [readAt_all, readAt_win, read_writes_all, readCov_all, readCov_win, Memref.IsWhole.read_unread, View.read_writes_cons_put _ _ _ _ _ rfl, View.writes_nil, put_all _ zero_off] <;>
       (try simp only [h1, hp1, y1]) <;>
       (try simp only [hc1, if_true, if_false]) <;>
       first | done | rfl | simp only [if_pos hc0] | simp only [if_neg hc0]
     isplitl [H8]
     · iexists _; isplitr; swap; · iexact H8
       ipureintro
       sl_unfold_run_names
       simp only [readAt_all, readAt_win, read_writes_all, readCov_all, readCov_win, Memref.IsWhole.read_unread, View.read_writes_cons_put _ _ _ _ _ rfl, View.writes_nil, put_all _ zero_off] <;>
       (try simp only [hp1, y1]) <;>
       (try simp only [hc1, if_true, if_false]) <;>
       first | done | rfl | simp only [if_pos hc0] | simp only [if_neg hc0]
     iexists _; isplitr; swap; · iexact H9
     ipureintro
     sl_unfold_run_names
     simp only [readAt_all, readAt_win, read_writes_all, readCov_all, readCov_win, Memref.IsWhole.read_unread, View.read_writes_cons_put _ _ _ _ _ rfl, View.writes_nil, put_all _ zero_off] <;>
     (try simp only [y1]) <;>
     (try simp only [hc1, if_true, if_false]) <;>
     first | done | rfl | simp only [if_pos hc0] | simp only [if_neg hc0])

end Cert.KernelIdeal.Hand
-- ==== Proof.KRun2.lean ====
module

public import proofs.«01_k».proof.Proof.KBase
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point is the first: the condition of the body's first branch. -/
abbrev first2 (i : grid2.Coords) : Prop := (Scalar.cmpi .ne (Scalar.extui (Scalar.cmpi .eq (BitVec.ofNat 32 (i 0).val) 0#32)) 0#32) = 1#1

/-- The half-width operand after the body at a point: taken from the window at the first point, kept after. -/
def y2 (i : grid2.Coords) (x1 : Vec F S4096x32 .f32) (y : Vec F S4096x32 .bf16) : Vec F S4096x32 .bf16 :=
  if first2 i then k2_pay1 x1 else y

/-- The product's rows after the body at a point: this point's row block put over what was there. -/
def hp2 (i : grid2.Coords) (x0 : Vec F S512x4096 .bf16) (x1 : Vec F S4096x32 .f32) (hp : Vec F S4096x32 .f32)
    (y : Vec F S4096x32 .bf16) : Vec F S4096x32 .f32 :=
  VecWindow.put hp (k2_off1 i) S512x32.size (k2_pay2 x0 (y2 i x1 y))

/-- The result's staging buffer after the body at a point: the product with the weights at the last point, untouched before. -/
def h2 (i : grid2.Coords) (x0 : Vec F S512x4096 .bf16) (x1 : Vec F S4096x32 .f32) (x2 : Vec F S32x32 .f32) (h hp : Vec F S4096x32 .f32)
    (y : Vec F S4096x32 .bf16) : Vec F S4096x32 .f32 :=
  if k2_cond2 i = 1#1 then k2_pay3 (hp2 i x0 x1 hp y) x2 else h

set_option maxHeartbeats 4000000 in
/-- The body at any point, on whole buffers at any contents: the inputs stay, the rest moves as `h2`, `hp2`, `y2` say. -/
theorem run2 (c : Dev nD) (i : grid2.Coords)
    (arg1 : Memref sig .tc .vmem S512x4096 .bf16) (harg1 : arg1.IsWhole)
    (arg2 : Memref sig .tc .vmem S4096x32 .f32) (harg2 : arg2.IsWhole)
    (arg3 : Memref sig .tc .vmem S32x32 .f32) (harg3 : arg3.IsWhole)
    (arg4 : Memref sig .tc .vmem S4096x32 .f32) (harg4 : arg4.IsWhole)
    (arg5 : Memref sig .tc .vmem S4096x32 .f32) (harg5 : arg5.IsWhole)
    (arg6 : Memref sig .tc .vmem S4096x32 .bf16) (harg6 : arg6.IsWhole)
    (x0 : Vec F S512x4096 .bf16)
    (x1 : Vec F S4096x32 .f32)
    (x2 : Vec F S32x32 .f32)
    (h : Vec F S4096x32 .f32)
    (hp : Vec F S4096x32 .f32)
    (y : Vec F S4096x32 .bf16)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare h
        ∗ owns (c : Thread nD τ) arg5 fullShare hp
        ∗ owns (c : Thread nD τ) arg6 fullShare y
        ∗ (iprop(owns (c : Thread nD τ) arg1 fullShare x0
            ∗ owns (c : Thread nD τ) arg2 fullShare x1
            ∗ owns (c : Thread nD τ) arg3 fullShare x2
            ∗ owns (c : Thread nD τ) arg4 fullShare (h2 i x0 x1 x2 h hp y)
            ∗ owns (c : Thread nD τ) arg5 fullShare (hp2 i x0 x1 hp y)
            ∗ owns (c : Thread nD τ) arg6 fullShare (y2 i x1 y)) -∗ K ⟨⟩))
      ⊢ wp frame (wpE (defs₀ (F := F)) Variants.none c none) E (cc2__layerN_body i arg1 harg1 arg2 harg2 arg3 harg3 arg4 harg4 arg5 harg5 arg6 harg6) K := by
  simp only [cc2__layerN_body_eq_skeleton]; unfold cc2__layerN_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  clear hf1 hf2 hf3 hf4 hf5 hf6
  by_cases hc0 : first2 i <;> by_cases hc1 : k2_cond2 i = 1#1 <;>
    (sl_exec (disch := first | sl_exact hc0 | sl_exact hc1)
     sl_step
     iapply Hk
     isplitl [H1]
     · iexists _; isplitr; swap; · iexact H1
       ipureintro; exact harg1.read_unread _
     isplitl [H2]
     · iexists _; isplitr; swap; · iexact H2
       ipureintro; exact harg2.read_unread _
     isplitl [H3]
     · iexists _; isplitr; swap; · iexact H3
       ipureintro; exact harg3.read_unread _
     isplitl [H4]
     · iexists _; isplitr; swap; · iexact H4
       ipureintro
       sl_unfold_run_names
       simp only [readAt_all, readAt_win, read_writes_all, readCov_all, readCov_win, Memref.IsWhole.read_unread, View.read_writes_cons_put _ _ _ _ _ rfl, View.writes_nil, put_all _ zero_off] <;>
       (try simp only [h2, hp2, y2]) <;>
       (try simp only [hc1, if_true, if_false]) <;>
       first | done | rfl | simp only [if_pos hc0] | simp only [if_neg hc0]
     isplitl [H5]
     · iexists _; isplitr; swap; · iexact H5
       ipureintro
       sl_unfold_run_names
       simp only [readAt_all, readAt_win, read_writes_all, readCov_all, readCov_win, Memref.IsWhole.read_unread, View.read_writes_cons_put _ _ _ _ _ rfl, View.writes_nil, put_all _ zero_off] <;>
       (try simp only [hp2, y2]) <;>
       (try simp only [hc1, if_true, if_false]) <;>
       first | done | rfl | simp only [if_pos hc0] | simp only [if_neg hc0]
     iexists _; isplitr; swap; · iexact H6
     ipureintro
     sl_unfold_run_names
     simp only [readAt_all, readAt_win, read_writes_all, readCov_all, readCov_win, Memref.IsWhole.read_unread, View.read_writes_cons_put _ _ _ _ _ rfl, View.writes_nil, put_all _ zero_off] <;>
     (try simp only [y2]) <;>
     (try simp only [hc1, if_true, if_false]) <;>
     first | done | rfl | simp only [if_pos hc0] | simp only [if_neg hc0])

end Cert.KernelIdeal.Hand
-- ==== Proof.KRun4.lean ====
module

public import proofs.«01_k».proof.Proof.KBase
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The decoder's hidden rows after the body at a point: computed at the first point, kept after. -/
def z4 (i : grid4.Coords) (x0 x1 x2 : Vec F S4096x32 .f32) (x3 : Vec F S96x32 .f32) (x4 : Vec F S1x32 .f32) (z : Vec F S4096x32 .f32) :
    Vec F S4096x32 .f32 :=
  if k4_cond1 i = 1#1 then k4_pay6 x0 x1 x2 x3 x4 else z

/-- The second result, from the inputs. -/
def seq4 (x0 x1 x2 : Vec F S4096x32 .f32) (x5 : Vec F S96x22 .f32) (x6 : Vec F S1x22 .f32) : Vec F S4096x22 .f32 :=
  k4_pay1 (k4_pay7 x0 x1 x5) (k4_pay8 x5) (k4_pay9 x2) x6

/-- The second result's staging buffer after the body at a point: stored at the first point, untouched after. -/
def s4 (i : grid4.Coords) (x0 x1 x2 : Vec F S4096x32 .f32) (x5 : Vec F S96x22 .f32) (x6 : Vec F S1x22 .f32) (s : Vec F S4096x22 .f32) :
    Vec F S4096x22 .f32 :=
  if k4_cond1 i = 1#1 then seq4 x0 x1 x2 x5 x6 else s

/-- The first result's row block of a point, from the hidden rows. -/
def map4 (i : grid4.Coords) (z : Vec F S4096x32 .f32) : Vec F S512x4096 .f32 :=
  k4_pay2 (VecWindow.window (s := S4096x32) z (k4_off1 i) S512x32.size (k4_off1_inb i)) z

set_option maxHeartbeats 4000000 in
/-- The body at any point, on whole buffers at any contents. -/
theorem run4 (c : Dev nD) (i : grid4.Coords)
    (arg1 : Memref sig .tc .vmem S4096x32 .f32) (harg1 : arg1.IsWhole)
    (arg2 : Memref sig .tc .vmem S4096x32 .f32) (harg2 : arg2.IsWhole)
    (arg3 : Memref sig .tc .vmem S4096x32 .f32) (harg3 : arg3.IsWhole)
    (arg4 : Memref sig .tc .vmem S96x32 .f32) (harg4 : arg4.IsWhole)
    (arg5 : Memref sig .tc .vmem S1x32 .f32) (harg5 : arg5.IsWhole)
    (arg6 : Memref sig .tc .vmem S96x22 .f32) (harg6 : arg6.IsWhole)
    (arg7 : Memref sig .tc .vmem S1x22 .f32) (harg7 : arg7.IsWhole)
    (arg8 : Memref sig .tc .vmem S512x4096 .f32) (harg8 : arg8.IsWhole)
    (arg9 : Memref sig .tc .vmem S4096x22 .f32) (harg9 : arg9.IsWhole)
    (arg10 : Memref sig .tc .vmem S4096x32 .f32) (harg10 : arg10.IsWhole)
    (x0 : Vec F S4096x32 .f32)
    (x1 : Vec F S4096x32 .f32)
    (x2 : Vec F S4096x32 .f32)
    (x3 : Vec F S96x32 .f32)
    (x4 : Vec F S1x32 .f32)
    (x5 : Vec F S96x22 .f32)
    (x6 : Vec F S1x22 .f32)
    (o : Vec F S512x4096 .f32)
    (s : Vec F S4096x22 .f32)
    (z : Vec F S4096x32 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare o
        ∗ owns (c : Thread nD τ) arg9 fullShare s
        ∗ owns (c : Thread nD τ) arg10 fullShare z
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (map4 i (z4 i x0 x1 x2 x3 x4 z))
            ∗ owns (c : Thread nD τ) arg9 fullShare (s4 i x0 x1 x2 x5 x6 s)
            ∗ owns (c : Thread nD τ) arg10 fullShare (z4 i x0 x1 x2 x3 x4 z)) -∗ K ⟨⟩))
      ⊢ wp frame (wpE (defs₀ (F := F)) Variants.none c none) E (cc4__decoder_body i arg1 harg1 arg2 harg2 arg3 harg3 arg4 harg4 arg5 harg5 arg6 harg6 arg7 harg7 arg8 harg8 arg9 harg9 arg10 harg10) K := by
  simp only [cc4__decoder_body_eq_skeleton]; unfold cc4__decoder_body_skel
  simp only [k4_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  clear hf1 hf2 hf3 hf4 hf5 hf6 hf7 hf8 hf9 hf10
  by_cases hc0 : k4_cond1 i = 1#1 <;>
    (sl_exec (disch := first | sl_exact hc0)
     sl_step
     iapply Hk
     isplitl [H1]
     · iexists _; isplitr; swap; · iexact H1
       ipureintro; exact harg1.read_unread _
     isplitl [H2]
     · iexists _; isplitr; swap; · iexact H2
       ipureintro; exact harg2.read_unread _
     isplitl [H3]
     · iexists _; isplitr; swap; · iexact H3
       ipureintro; exact harg3.read_unread _
     isplitl [H4]
     · iexists _; isplitr; swap; · iexact H4
       ipureintro; exact harg4.read_unread _
     isplitl [H5]
     · iexists _; isplitr; swap; · iexact H5
       ipureintro; exact harg5.read_unread _
     isplitl [H6]
     · iexists _; isplitr; swap; · iexact H6
       ipureintro; exact harg6.read_unread _
     isplitl [H7]
     · iexists _; isplitr; swap; · iexact H7
       ipureintro; exact harg7.read_unread _
     isplitl [H8]
     · iexists _; isplitr; swap; · iexact H8
       ipureintro
       sl_unfold_run_names
       simp only [readAt_all, readAt_win, read_writes_all, readCov_all, readCov_win, Memref.IsWhole.read_unread, View.read_writes_cons_put _ _ _ _ _ rfl, View.writes_nil, put_all _ zero_off] <;>
       (try simp only [map4, z4]) <;>
       (try simp only [if_true, if_false]) <;>
       first | done | rfl | simp only [if_pos hc0] | simp only [if_neg hc0]
     isplitl [H9]
     · iexists _; isplitr; swap; · iexact H9
       ipureintro
       sl_unfold_run_names
       simp only [readAt_all, readAt_win, read_writes_all, readCov_all, readCov_win, Memref.IsWhole.read_unread, View.read_writes_cons_put _ _ _ _ _ rfl, View.writes_nil, put_all _ zero_off] <;>
       (try simp only [s4, seq4]) <;>
       (try simp only [if_true, if_false]) <;>
       first | done | rfl | simp only [if_pos hc0] | simp only [if_neg hc0]
     iexists _; isplitr; swap; · iexact H10
     ipureintro
     sl_unfold_run_names
     simp only [readAt_all, readAt_win, read_writes_all, readCov_all, readCov_win, Memref.IsWhole.read_unread, View.read_writes_cons_put _ _ _ _ _ rfl, View.writes_nil, put_all _ zero_off] <;>
     (try simp only [z4]) <;>
     (try simp only [if_true, if_false]) <;>
     first | done | rfl | simp only [if_pos hc0] | simp only [if_neg hc0])

end Cert.KernelIdeal.Hand
-- ==== Proof.KSpec.lean ====
module

public import proofs.«01_k».proof.Proof.KRun0
public import proofs.«01_k».proof.Proof.KRun1
public import proofs.«01_k».proof.Proof.KRun2
public import proofs.«01_k».proof.Proof.KRun4
public import Idealize.ShloMosaic.Lib.ValueIdxCore

@[expose] public section

set_option maxRecDepth 16384

noncomputable section

/-!
# What each of the five calls leaves, as functions of what it finds

A 4096-row array is read and written in eight blocks of 512 rows.  `rowBlk` is a block of an array, `rowsOf` the array
made of eight blocks.  The calls' results are then stated with them, for any element values.
-/

namespace Cert.KernelIdeal.Hand

open Cert.KernelIdeal Cert.KernelIdeal.Gen
open Idealize.ShloMosaic Idealize.ShloMosaic.TcCoe Idealize.ShloMosaic.Tactic
open Idealize.ShloMosaic.ValueIdx (ix2)

variable {F : FTy → Type} [FloatOps F]

/-- Rows `512 t .. 512 t + 511` of an array of 4096 rows. -/
def rowBlk {α : Type} {n : ℕ} (t : Fin 8) (A : (⟨2, ![4096, n]⟩ : Shape).Idx → α) : (⟨2, ![512, n]⟩ : Shape).Idx → α :=
  fun j => A (ix2 ⟨512 * t.val + (j 0).val, by have h0 : (j 0).val < 512 := (j 0).isLt; have h1 := t.isLt; omega⟩ (j 1))

/-- The array of 4096 rows whose row block `t` is `f t`. -/
def rowsOf {α : Type} {n : ℕ} (f : Fin 8 → (⟨2, ![512, n]⟩ : Shape).Idx → α) : (⟨2, ![4096, n]⟩ : Shape).Idx → α :=
  fun j => f ⟨(j 0).val / 512, by have h : (j 0).val < 4096 := (j 0).isLt; omega⟩ (ix2 ⟨(j 0).val % 512, Nat.mod_lt _ (by decide)⟩ (j 1))

/-- An array filled block by block: `P t x` says that the first `t` row blocks of `x` are those of `rowsOf f`. -/
def Filled {α : Type} {n : ℕ} (f : Fin 8 → (⟨2, ![512, n]⟩ : Shape).Idx → α) (t : ℕ) (x : (⟨2, ![4096, n]⟩ : Shape).Idx → α) : Prop :=
  ∀ j : (⟨2, ![4096, n]⟩ : Shape).Idx, (j 0).val < 512 * t → x j = rowsOf f j

theorem Filled.zero {α : Type} {n : ℕ} (f : Fin 8 → (⟨2, ![512, n]⟩ : Shape).Idx → α) (x : (⟨2, ![4096, n]⟩ : Shape).Idx → α) :
    Filled f 0 x := fun j h => absurd h (by omega)

/-- All eight blocks filled: the array is the one of the blocks. -/
theorem Filled.all {α : Type} {n : ℕ} {f : Fin 8 → (⟨2, ![512, n]⟩ : Shape).Idx → α} {x : (⟨2, ![4096, n]⟩ : Shape).Idx → α}
    {t : ℕ} (h : Filled f t x) (ht : t = 8) : x = rowsOf f :=
  funext fun j => h j (by have hj : (j 0).val < 4096 := (j 0).isLt; omega)

/-- Putting block `t` fills one block more. -/
theorem Filled.step {α : Type} {n : ℕ} {f : Fin 8 → (⟨2, ![512, n]⟩ : Shape).Idx → α} {x : (⟨2, ![4096, n]⟩ : Shape).Idx → α} {t : ℕ}
    (h : Filled f t x) (ht : t < 8) (off : Fin 2 → ℕ) (h0 : off 0 = 512 * t) (h1 : off 1 = 0)
    (w : (⟨2, ![512, n]⟩ : Shape).Idx → α) (hw : w = f ⟨t, ht⟩) :
    Filled f (t + 1) (VecWindow.put (s := ⟨2, ![4096, n]⟩) x off ![512, n] w) := by
  intro j hj
  subst hw
  unfold VecWindow.put
  have hn : (j 1).val < n := (j 1).isLt
  by_cases hlt : (j 0).val < 512 * t
  · rw [dif_neg, h j hlt]
    intro hall
    have := (hall 0).1
    omega
  · have e0 : (j 0).val / 512 = t := by omega
    rw [dif_pos]
    · unfold rowsOf
      have ef : (⟨(j 0).val / 512, by omega⟩ : Fin 8) = ⟨t, ht⟩ := Fin.ext e0
      rw [ef]
      congr 1
      funext a
      match a with
      | ⟨0, _⟩ =>
        refine Fin.ext ?_
        show (j 0).val - off 0 = (j 0).val % 512
        omega
      | ⟨1, _⟩ =>
        refine Fin.ext ?_
        show (j 1).val - off 1 = (j 1).val
        omega
    · intro a
      match a with
      | ⟨0, _⟩ => show off 0 ≤ (j 0).val ∧ (j 0).val < off 0 + 512; omega
      | ⟨1, _⟩ => show off 1 ≤ (j 1).val ∧ (j 1).val < off 1 + n; omega

/-- The offset of a row block, as the machine word the kernel computes it in. -/
theorem word_rows (n : ℕ) (h : n < 8) : (Scalar.indexCast (Scalar.muli (BitVec.ofNat 32 n) 512#32)).toNat = 512 * n := by
  have : ∀ k : Fin 8, (Scalar.indexCast (Scalar.muli (BitVec.ofNat 32 k.val) 512#32)).toNat = 512 * k.val := by decide
  exact this ⟨n, h⟩

/-- A window of 512 rows is a row block. -/
theorem window_rows {α : Type} {n : ℕ} (z : (⟨2, ![4096, n]⟩ : Shape).Idx → α) (t : Fin 8) (off : Fin 2 → ℕ) (h0 : off 0 = 512 * t.val) (h1 : off 1 = 0)
    (inb : ∀ a : Fin 2, off a + ![512, n] a ≤ ![4096, n] a) :
    VecWindow.window (s := ⟨2, ![4096, n]⟩) z off ![512, n] inb = rowBlk t z := by
  funext y
  unfold VecWindow.window rowBlk
  congr 1
  funext a
  match a with
  | ⟨0, _⟩ => refine Fin.ext ?_; show off 0 + 1 * (y 0).val = 512 * t.val + (y 0).val; omega
  | ⟨1, _⟩ => refine Fin.ext ?_; show off 1 + 1 * (y 1).val = (y 1).val; omega

/-- Row blocks taken of an array made of row blocks. -/
theorem rowsOf_at {α : Type} {n : ℕ} (f : Fin 8 → (⟨2, ![512, n]⟩ : Shape).Idx → α) (t : Fin 8) (y : (⟨2, ![512, n]⟩ : Shape).Idx)
    (j : (⟨2, ![4096, n]⟩ : Shape).Idx) (h0 : (j 0).val = t.val * 512 + (y 0).val) (h1 : (j 1).val = (y 1).val) : f t y = rowsOf f j := by
  have hy : (y 0).val < 512 := (y 0).isLt
  unfold rowsOf
  have e : (⟨(j 0).val / 512, by have h : (j 0).val < 4096 := (j 0).isLt; omega⟩ : Fin 8) = t := Fin.ext (by show (j 0).val / 512 = t.val; omega)
  rw [e]
  congr 1
  funext a
  match a with
  | ⟨0, _⟩ => refine Fin.ext ?_; show (y 0).val = (j 0).val % 512; omega
  | ⟨1, _⟩ => refine Fin.ext ?_; show (y 1).val = (j 1).val; omega

/-! ## The calls' results -/

/-- The grid point `t` of a call whose grid is eight points, as its coordinates. -/
def pt8 (t : Fin 8) : grid0.Coords := fun | ⟨0, _⟩ => t

/-- The accumulator of the column sums after the first `t` blocks. -/
def sumAt (A : Vec F S4096x4096 .f32) : (t : ℕ) → t ≤ 8 → Vec F S8x4096 .f32
  | 0, _ => k0_pay4
  | t + 1, h => k0_pay2 (k0_pay5 (rowBlk ⟨t, h⟩ A)) (part0 (pt8 ⟨t, h⟩) (rowBlk ⟨t, h⟩ A) (sumAt A t (Nat.le_of_succ_le h))) (diag0 (pt8 ⟨t, h⟩))

/-- Call 0: the scale row. -/
def outScale (A : Vec F S4096x4096 .f32) : Vec F S1x4096 .f32 :=
  k0_pay3 (k0_pay5 (rowBlk 7 A)) (part0 (pt8 7) (rowBlk 7 A) (sumAt A 7 (by decide))) (diag0 (pt8 7))

/-- Call 1: the normalised matrix, in half width. -/
def outNorm (A : Vec F S4096x4096 .f32) (dc : Vec F S4096x1 .f32) (dr : Vec F S1x4096 .f32) : Vec F S4096x4096 .bf16 :=
  rowsOf fun t => k1_pay2 (pt8 t) (rowBlk t A) (rowBlk t dc) dr

/-- Call 1: the product of the normalised matrix with the features, before the weights. -/
def preOne (A : Vec F S4096x4096 .f32) (dc : Vec F S4096x1 .f32) (dr : Vec F S1x4096 .f32) (x : Vec F S4096x128 .f32) : Vec F S4096x128 .f32 :=
  rowsOf fun t => k1_pay3 (pt8 t) (rowBlk t A) (rowBlk t dc) dr (k1_pay1 x)

/-- Call 1: the first layer's product. -/
def outOne (A : Vec F S4096x4096 .f32) (dc : Vec F S4096x1 .f32) (dr : Vec F S1x4096 .f32) (x : Vec F S4096x128 .f32) (w : Vec F S128x32 .f32) :
    Vec F S4096x32 .f32 :=
  k1_pay4 (preOne A dc dr x) w

/-- Calls 2 and 3: the product with the normalised matrix, before the weights. -/
def preMore (L : Vec F S4096x4096 .bf16) (x : Vec F S4096x32 .f32) : Vec F S4096x32 .f32 :=
  rowsOf fun t => k2_pay2 (rowBlk t L) (k2_pay1 x)

/-- Calls 2 and 3: a later layer's product. -/
def outMore (L : Vec F S4096x4096 .bf16) (x : Vec F S4096x32 .f32) (w : Vec F S32x32 .f32) : Vec F S4096x32 .f32 :=
  k2_pay3 (preMore L x) w

/-- Call 4: the contact map. -/
def outMap (x1 x2 x3 : Vec F S4096x32 .f32) (w : Vec F S96x32 .f32) (b : Vec F S1x32 .f32) : Vec F S4096x4096 .f32 :=
  rowsOf fun t => k4_pay2 (rowBlk t (k4_pay6 x1 x2 x3 w b)) (k4_pay6 x1 x2 x3 w b)

/-! ## Calls 2 and 3 between points -/

/-- What the scratch of call 2 (or 3) holds before point `t`: the rows already computed, and past the first point the half-width operand. -/
def InvMore (L : Vec F S4096x4096 .bf16) (x : Vec F S4096x32 .f32) (t : ℕ) (hp : Vec F S4096x32 .f32) (y : Vec F S4096x32 .bf16) : Prop :=
  Filled (fun t => k2_pay2 (rowBlk t L) (k2_pay1 x)) t hp ∧ (t ≠ 0 → y = k2_pay1 x)

theorem first2_pt8 (t : ℕ) (ht : t < 8) : first2 (pt8 ⟨t, ht⟩) ↔ t = 0 := by
  show (Scalar.cmpi .ne (Scalar.extui (Scalar.cmpi .eq (BitVec.ofNat 32 t) 0#32)) 0#32) = 1#1 ↔ t = 0
  word_cmp

theorem last2_pt8 (t : ℕ) (ht : t < 8) : k2_cond2 (pt8 ⟨t, ht⟩) = 1#1 ↔ t = 7 := by
  show (Scalar.cmpi .ne (Scalar.extui (Scalar.cmpi .eq (BitVec.ofNat 32 t) 7#32)) 0#32) = 1#1 ↔ t = 7
  word_cmp

theorem InvMore.step {L : Vec F S4096x4096 .bf16} {x : Vec F S4096x32 .f32} {t : ℕ} {hp : Vec F S4096x32 .f32} {y : Vec F S4096x32 .bf16}
    (h : InvMore L x t hp y) (ht : t < 8) :
    InvMore L x (t + 1) (hp2 (pt8 ⟨t, ht⟩) (rowBlk ⟨t, ht⟩ L) x hp y) (y2 (pt8 ⟨t, ht⟩) x y) := by
  have hy : y2 (pt8 ⟨t, ht⟩) x y = k2_pay1 x := by
    unfold y2
    by_cases h0 : t = 0
    · rw [if_pos ((first2_pt8 t ht).mpr h0)]
    · rw [if_neg fun hf => h0 ((first2_pt8 t ht).mp hf)]
      exact h.2 h0
  refine ⟨?_, fun _ => hy⟩
  unfold hp2
  rw [hy]
  exact h.1.step ht _ (word_rows t ht) rfl _ rfl

/-- At the last point the result's staging buffer is left at the result. -/
theorem InvMore.last {L : Vec F S4096x4096 .bf16} {x : Vec F S4096x32 .f32} {t : ℕ} {hp : Vec F S4096x32 .f32} {y : Vec F S4096x32 .bf16}
    (h : InvMore L x t hp y) (ht : t < 8) (h7 : t = 7) {w : Vec F S32x32 .f32} (d : Vec F S4096x32 .f32) :
    h2 (pt8 ⟨t, ht⟩) (rowBlk ⟨t, ht⟩ L) x w d hp y = outMore L x w := by
  unfold h2 outMore preMore
  rw [if_pos ((last2_pt8 t ht).mpr h7)]
  exact congrArg (k2_pay3 · _) ((h.step ht).1.all (congrArg (· + 1) h7))

end Cert.KernelIdeal.Hand
-- ==== Proof.KReg0.lean ====
module

public import proofs.«01_k».proof.Proof.KSpec
public import proofs.«01_k».proof.Proof.Gen.KernelIdeal.Launch
public import Idealize.ShloMosaic.Lib.Pipeline.RegionArraysS
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

namespace R0

theorem point (t : Fin cfg0.N) : t.val < 8 := Nat.lt_of_lt_of_eq t.isLt N_0

theorem coord (t : Fin cfg0.N) : (grid0.coords t 0).val = t.val := by
  have e : (grid0.coords t 0).val = t.val / 1 % 8 := Pipeline.Grid.coords_val t 0 (by decide) rfl
  have := point t
  omega

theorem coords (t : Fin cfg0.N) : grid0.coords t = pt8 ⟨t.val, point t⟩ := by
  funext a
  match a with
  | ⟨0, _⟩ => exact Fin.ext (coord t)

theorem first_iff (t : Fin cfg0.N) : first0 (grid0.coords t) ↔ t.val = 0 := by
  have ht := point t
  simp only [first0, coord t]
  word_cmp

theorem last_iff (t : Fin cfg0.N) : k0_cond2 (grid0.coords t) = 1#1 ↔ t.val = 7 := by
  have ht := point t
  simp only [k0_cond2, coord t]
  word_cmp

variable (W : Dev nD → Valuation τ sig (Elt F))

/-- A window's block at a point, of the arrays as the call finds them. -/
def blk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

theorem idx_0 : ∀ t : Fin cfg0.N, win0_0.index t 0 = t.val ∧ win0_0.index t 1 = 0 := by decide +kernel
/-- Window 0's block is the point's row block. -/
theorem blk_0 (c : Dev nD) (t : Fin cfg0.N) : blk W c 0 t = rowBlk ⟨t.val, point t⟩ (W c main_v0) := by
  funext y
  unfold rowBlk
  blk_ext [blk, (idx_0 t).1, (idx_0 t).2]

/-- What the call leaves in its result. -/
def res (c : Dev nD) : Vec F S1x4096 .f32 := outScale (W c main_v0)

/-- What the scratch holds between the points, past the first: the sums of the blocks so far. -/
def Inv (c : Dev nD) (t : ℕ) (a : Vec F S8x4096 .f32) : Prop := t ≠ 0 → ∀ h : t ≤ 8, a = sumAt (W c main_v0) t h

variable {W} in
/-- The accumulator a point starts from is the sums of the blocks so far, at the first point as well. -/
theorem Inv.start {c : Dev nD} {t : Fin cfg0.N} {a : Vec F S8x4096 .f32} (h : Inv W c t.val a) :
    start0 (grid0.coords t) a = sumAt (W c main_v0) t.val (Nat.le_of_lt (point t)) := by
  unfold start0
  by_cases h0 : t.val = 0
  · rw [if_pos ((first_iff t).mpr h0)]
    obtain ⟨t, ht⟩ := t
    dsimp only at h0
    subst h0
    rfl
  · rw [if_neg fun hf => h0 ((first_iff t).mp hf)]
    exact h h0 _

variable {W} in
theorem Inv.step {c : Dev nD} {t : Fin cfg0.N} {a : Vec F S8x4096 .f32} (h : Inv W c t.val a) :
    Inv W c (t.val + 1) (acc0 (grid0.coords t) (rowBlk ⟨t.val, point t⟩ (W c main_v0)) a) := by
  intro _ hle
  unfold acc0
  rw [h.start, coords t]
  rfl

/-- At the last point the result's staging buffer is left at the result. -/
theorem Inv.last {c : Dev nD} {t : Fin cfg0.N} {a : Vec F S8x4096 .f32} (h : Inv W c t.val a) (ht : t.val = 7) (d : Vec F S1x4096 .f32) :
    d0 (grid0.coords t) (rowBlk ⟨t.val, point t⟩ (W c main_v0)) d a = res W c := by
  unfold d0
  rw [if_pos ((last_iff t).mpr ht), h.start, coords t]
  obtain ⟨t, hlt⟩ := t
  dsimp only at ht
  subst ht
  rfl

/-- The invariant between points. -/
def Phi (c : Dev nD) (t : ℕ) : sProp 𝕄 :=
  iprop((∃ s0, ⌜Inv W c t s0⌝ ∗ owns (c : Thread nD τ) (Memref.whole cc0_scratch0) fullShare s0)
    ∗ Pipeline.scopedRestBut (Ix := Unit) (Name := ℕ) (U := UR sig nD τ) (Lvl := ℕ) (Val := Elt F) spec0 c [cc0_scratch0]
    ∗ (∃ r, prngReg c r))

/-- The proof data of the call entered at the arrays `W`. -/
def dat (c : Dev nD) : Dat τ (Elt F) Unit ℕ (UR sig nD τ) ℕ cfg0 c where
  A w := W c (Proc.devRef .tc (Pipeline.arrRef spec0 w))
  after w t := match w with
    | ⟨0, _⟩ => blk W c 0 t
    | ⟨1, _⟩ => res W c
    | ⟨_ + 2, h⟩ => absurd h (Nat.not_lt.2 (Nat.le_add_left _ _))
  Φ t := Phi W c t.val
  q _ := fullShare
  owed _ := 0

theorem A_eq (c : Dev nD) (w : Fin cfg0.W) : (dat W c).A w = W c (Proc.devRef .tc (Pipeline.arrRef spec0 w)) := by dsimp only [dat]

theorem after_0 (c : Dev nD) (t : Fin cfg0.N) : (dat W c).after 0 t = blk W c 0 t := by dsimp only [dat]
theorem before_0 (c : Dev nD) (t : Fin cfg0.N) (d) : (dat W c).before 0 t d = blk W c 0 t :=
  ((dat W c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem leaves_0 (c : Dev nD) (t : Fin cfg0.N) : (dat W c).leavesExact 0 t = owns (c : Thread nD τ) (st0_0 t) fullShare (blk W c 0 t) := by
  unfold Dat.leavesExact; rw [show cfg0.idle 0 (cfg0.grid.coords t) = false from rfl]; dsimp only [dat]

/-- The result's buffer after the body, as the pipeline asks for it. -/
theorem leaves_1 (c : Dev nD) (t : Fin cfg0.N) (a : Vec F S8x4096 .f32) (h : Inv W c t.val a) (d) :
    owns (c : Thread nD τ) (st0_1 t) fullShare
        (d0 (grid0.coords t) (rowBlk ⟨t.val, point t⟩ (W c main_v0)) ((dat W c).before 1 t d) a)
      ⊢ ((dat W c).leavesExact 1 t : sProp 𝕄) := by
  have ht := point t
  by_cases h7 : t.val = 7
  · rw [h.last W h7]
    unfold Dat.leavesExact
    rw [show cfg0.idle 1 (cfg0.grid.coords t) = false from by
      show (!(k0_cond2 (grid0.coords t) == 1#1)) = false
      rw [(last_iff t).mpr h7]; rfl]
    exact .rfl
  · have hn : k0_cond2 (grid0.coords t) ≠ 1#1 := fun h' => h7 ((last_iff t).mp h')
    rw [(dat W c).leavesExact_idle 1 t (by
        show (!(k0_cond2 (grid0.coords t) == 1#1)) = true
        simp only [hn, beq_iff_eq, Bool.not_eq_true', beq_eq_false_iff_ne, ne_eq, not_false_iff])
      (by
        have := flush0_1 t
        rw [Nat.mod_eq_of_lt ht] at this
        exact Bool.eq_false_iff.mpr fun h' => h7 (this.mp h'))]
    unfold d0
    rw [if_neg hn]
    iintro H
    iexists d
    iexact H

/-- What the body is called with at a point. -/
def pre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d)))

/-- What it must leave. -/
def post (c : Dev nD) (t : Fin cfg0.N) : sProp 𝕄 :=
  iprop((dat W c).Φ t.succ ∗ (dat W c).owesAt () t.succ
    ∗ (dat W c).leavesExact 0 t ∗ (dat W c).leavesExact 1 t)

theorem sound (c : Dev nD) (t : Fin cfg0.N) :
    pre W c t ⊢ wp frame (wpE (defs₀ (F := F)) Variants.none c none) Set.univ (bodyAt0 t) (fun _ => post W c t) := by
  unfold pre post bodyAt0
  simp only [before_0]
  rw [leaves_0, blk_0]
  rw [show (dat W c).owesAt () t.succ = (dat W c).owesAt () t.castSucc from rfl]
  rw [show (dat W c).Φ t.castSucc = Phi W c t.val from rfl, show (dat W c).Φ t.succ = Phi W c (t.val + 1) from rfl]
  unfold Phi
  iintro ⟨⟨⟨%s0, %hI, HS0⟩, Hrest, Hg⟩, Ho, ⟨%d0, H0⟩, ⟨%d1, H1⟩⟩
  iapply (run0 c (grid0.coords t) _ _ _ _ _ _ (rowBlk ⟨t.val, point t⟩ (W c main_v0)) ((dat W c).before 1 t d1) s0 Set.univ _)
  isplitl [H0]; · iexact H0
  isplitl [H1]; · iexact H1
  isplitl [HS0]; · iexact HS0
  iintro ⟨H0, H1, HS0⟩
  isplitl [HS0 Hrest Hg]
  · isplitl [HS0]
    · iexists _
      isplitr
      · ipureintro; exact hI.step
      iexact HS0
    isplitl [Hrest]; · iexact Hrest
    iexact Hg
  isplitl [Ho]; · iexact Ho
  isplitl [H0]; · iexact H0
  ihave H := (leaves_1 W c t s0 hI d1) $$ H1
  iexact H

theorem row (t : Fin cfg0.N) : defs₀ (F := F) .tc cfg0.body (cfg0.bodyArgs t (cfg0.slots t)) = bodyAt0 t := by
  unfold defs₀; rw [Defs.onTc_tc]

theorem obligation (c : Dev nD) : BodyObligation (dat W c) (defs₀ (F := F)) Variants.none () Set.univ := fun t => by
  rw [bigSep_W0, bigSep_W0, row]
  exact triple_restated (sound W c t) rfl .rfl fun _ => .rfl

theorem hin (c : Dev nD) :
    iprop(Pipeline.scopedRest (Ix := Unit) (Name := ℕ) (U := UR sig nD τ) (Lvl := ℕ) (Val := Elt F) spec0 c ∗ (∃ r, prngReg c r)) ⊢ (dat W c).Φ 0 := by
  rw [show (dat W c).Φ 0 = Phi W c 0 from rfl, scopedRest0_split]
  unfold Phi
  simp only [← owns_whole]
  iintro ⟨⟨⟨%f0, H0⟩, Hrest⟩, Hg⟩
  isplitl [H0]
  · iexists f0
    isplitr
    · ipureintro; exact fun h => absurd rfl h
    iexact H0
  isplitl [Hrest]; · iexact Hrest
  iexact Hg

theorem hout (c : Dev nD) :
    (dat W c).Φ (Fin.last cfg0.N)
      ⊢ iprop(Pipeline.scopedRest (Ix := Unit) (Name := ℕ) (U := UR sig nD τ) (Lvl := ℕ) (Val := Elt F) spec0 c ∗ (∃ r, prngReg c r)) := by
  rw [show (dat W c).Φ (Fin.last cfg0.N) = Phi W c cfg0.N from rfl, scopedRest0_split]
  unfold Phi
  simp only [← owns_whole]
  iintro ⟨⟨%s0, -, H0⟩, Hrest, Hg⟩
  isplitl [H0 Hrest]
  · isplitl [H0]
    · iexists _; iexact H0
    iexact Hrest
  iexact Hg

theorem idx_1 : ∀ t : Fin cfg0.N, ∀ a, win0_1.index t a = 0 := by decide +kernel
/-- The result's array after the call. -/
theorem arr (c : Dev nD) : (dat W c).arrAt 1 cfg0.N = res W c := by
  refine (dat W c).arrAt_eq_of_after_last 1 t0_7 (by decide +kernel) _ fun j => ?_
  blk_simp
  dsimp only [dat]
  blk_ext [idx_1 t0_7]

end R0

end Cert.KernelIdeal.Hand
-- ==== Proof.KReg1.lean ====
module

public import proofs.«01_k».proof.Proof.KSpec
public import proofs.«01_k».proof.Proof.Gen.KernelIdeal.Launch
public import Idealize.ShloMosaic.Lib.Pipeline.RegionArraysS
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

namespace R1

theorem point (t : Fin cfg1.N) : t.val < 8 := Nat.lt_of_lt_of_eq t.isLt N_1

theorem coord (t : Fin cfg1.N) : (grid1.coords t 0).val = t.val := by
  have e : (grid1.coords t 0).val = t.val / 1 % 8 := Pipeline.Grid.coords_val t 0 (by decide) rfl
  have := point t
  omega

theorem coords (t : Fin cfg1.N) : grid1.coords t = pt8 ⟨t.val, point t⟩ := by
  funext a
  match a with
  | ⟨0, _⟩ => exact Fin.ext (coord t)

theorem first_iff (t : Fin cfg1.N) : first1 (grid1.coords t) ↔ t.val = 0 := by
  have ht := point t
  simp only [first1, coord t]
  word_cmp

theorem last_iff (t : Fin cfg1.N) : k1_cond2 (grid1.coords t) = 1#1 ↔ t.val = 7 := by
  have ht := point t
  simp only [k1_cond2, coord t]
  word_cmp

variable (W : Dev nD → Valuation τ sig (Elt F))

/-- A window's block at a point, of the arrays as the call finds them. -/
def blk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

theorem idx_0 : ∀ t : Fin cfg1.N, win1_0.index t 0 = t.val ∧ win1_0.index t 1 = 0 := by decide +kernel
/-- Window 0's block is the point's row block. -/
theorem blk_0 (c : Dev nD) (t : Fin cfg1.N) : blk W c 0 t = rowBlk ⟨t.val, point t⟩ (W c main_v0) := by
  funext y
  unfold rowBlk
  blk_ext [blk, (idx_0 t).1, (idx_0 t).2]

theorem idx_1 : ∀ t : Fin cfg1.N, win1_1.index t 0 = t.val ∧ win1_1.index t 1 = 0 := by decide +kernel
/-- Window 1's block is the point's row block. -/
theorem blk_1 (c : Dev nD) (t : Fin cfg1.N) : blk W c 1 t = rowBlk ⟨t.val, point t⟩ (W c main_v3) := by
  funext y
  unfold rowBlk
  blk_ext [blk, (idx_1 t).1, (idx_1 t).2]

theorem idx_2 : ∀ t : Fin cfg1.N, ∀ a, win1_2.index t a = 0 := by decide +kernel
/-- Window 2's block is the whole array. -/
theorem blk_2 (c : Dev nD) (t : Fin cfg1.N) : blk W c 2 t = W c main_v2 := by
  funext y
  blk_ext [blk, idx_2 t]

theorem idx_3 : ∀ t : Fin cfg1.N, ∀ a, win1_3.index t a = 0 := by decide +kernel
/-- Window 3's block is the whole array. -/
theorem blk_3 (c : Dev nD) (t : Fin cfg1.N) : blk W c 3 t = W c main_v1 := by
  funext y
  blk_ext [blk, idx_3 t]

theorem idx_4 : ∀ t : Fin cfg1.N, ∀ a, win1_4.index t a = 0 := by decide +kernel
/-- Window 4's block is the whole array. -/
theorem blk_4 (c : Dev nD) (t : Fin cfg1.N) : blk W c 4 t = W c main_arg2 := by
  funext y
  blk_ext [blk, idx_4 t]

/-- What the call leaves in its results. -/
def resL (c : Dev nD) : Vec F S4096x4096 .bf16 := outNorm (W c main_v0) (W c main_v3) (W c main_v2)
def res (c : Dev nD) : Vec F S4096x32 .f32 := outOne (W c main_v0) (W c main_v3) (W c main_v2) (W c main_v1) (W c main_arg2)

/-- What the scratch holds between the points: the rows already computed, and past the first point the half-width features. -/
def Inv (c : Dev nD) (t : ℕ) (hp : Vec F S4096x128 .f32) (y : Vec F S4096x128 .bf16) : Prop :=
  Filled (fun t => k1_pay3 (pt8 t) (rowBlk t (W c main_v0)) (rowBlk t (W c main_v3)) (W c main_v2) (k1_pay1 (W c main_v1))) t hp
    ∧ (t ≠ 0 → y = k1_pay1 (W c main_v1))

variable {W} in
theorem Inv.step {c : Dev nD} {t : Fin cfg1.N} {hp : Vec F S4096x128 .f32} {y : Vec F S4096x128 .bf16} (h : Inv W c t.val hp y) :
    Inv W c (t.val + 1) (hp1 (grid1.coords t) (rowBlk ⟨t.val, point t⟩ (W c main_v0)) (rowBlk ⟨t.val, point t⟩ (W c main_v3)) (W c main_v2) (W c main_v1) hp y) (y1 (grid1.coords t) (W c main_v1) y) := by
  have ht := point t
  have hy : y1 (grid1.coords t) (W c main_v1) y = k1_pay1 (W c main_v1) := by
    unfold y1
    by_cases h0 : t.val = 0
    · rw [if_pos ((first_iff t).mpr h0)]
    · rw [if_neg fun hf => h0 ((first_iff t).mp hf)]
      exact h.2 h0
  refine ⟨?_, fun _ => hy⟩
  unfold hp1
  rw [hy, coords t]
  exact h.1.step ht _ (word_rows _ ht) rfl _ rfl

/-- At the last point the result's staging buffer is left at the result. -/
theorem Inv.last {c : Dev nD} {t : Fin cfg1.N} {hp : Vec F S4096x128 .f32} {y : Vec F S4096x128 .bf16} (h : Inv W c t.val hp y) (ht : t.val = 7)
    (d : Vec F S4096x32 .f32) :
    h1 (grid1.coords t) (rowBlk ⟨t.val, point t⟩ (W c main_v0)) (rowBlk ⟨t.val, point t⟩ (W c main_v3)) (W c main_v2) (W c main_v1) (W c main_arg2) d hp y = res W c := by
  unfold h1 res outOne preOne
  rw [if_pos ((last_iff t).mpr ht)]
  exact congrArg (k1_pay4 · _) (h.step.1.all (congrArg (· + 1) ht))

/-- The invariant between points. -/
def Phi (c : Dev nD) (t : ℕ) : sProp 𝕄 :=
  iprop((∃ s0, ∃ s1, ⌜Inv W c t s0 s1⌝ ∗ owns (c : Thread nD τ) (Memref.whole cc1_scratch0) fullShare s0 ∗ owns (c : Thread nD τ) (Memref.whole cc1_scratch1) fullShare s1)
    ∗ Pipeline.scopedRestBut (Ix := Unit) (Name := ℕ) (U := UR sig nD τ) (Lvl := ℕ) (Val := Elt F) spec1 c [cc1_scratch0, cc1_scratch1]
    ∗ (∃ r, prngReg c r))

/-- The proof data of the call entered at the arrays `W`. -/
def dat (c : Dev nD) : Dat τ (Elt F) Unit ℕ (UR sig nD τ) ℕ cfg1 c where
  A w := W c (Proc.devRef .tc (Pipeline.arrRef spec1 w))
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => k1_pay2 (grid1.coords t) (rowBlk ⟨t.val, point t⟩ (W c main_v0)) (rowBlk ⟨t.val, point t⟩ (W c main_v3)) (W c main_v2)
    | ⟨6, _⟩ => res W c
    | ⟨_ + 7, h⟩ => absurd h (Nat.not_lt.2 (Nat.le_add_left _ _))
  Φ t := Phi W c t.val
  q _ := fullShare
  owed _ := 0

theorem A_eq (c : Dev nD) (w : Fin cfg1.W) : (dat W c).A w = W c (Proc.devRef .tc (Pipeline.arrRef spec1 w)) := by dsimp only [dat]

theorem after_0 (c : Dev nD) (t : Fin cfg1.N) : (dat W c).after 0 t = blk W c 0 t := by dsimp only [dat]
theorem before_0 (c : Dev nD) (t : Fin cfg1.N) (d) : (dat W c).before 0 t d = blk W c 0 t :=
  ((dat W c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem leaves_0 (c : Dev nD) (t : Fin cfg1.N) : (dat W c).leavesExact 0 t = owns (c : Thread nD τ) (st1_0 t) fullShare (blk W c 0 t) := by
  unfold Dat.leavesExact; rw [show cfg1.idle 0 (cfg1.grid.coords t) = false from rfl]; dsimp only [dat]

theorem after_1 (c : Dev nD) (t : Fin cfg1.N) : (dat W c).after 1 t = blk W c 1 t := by dsimp only [dat]
theorem before_1 (c : Dev nD) (t : Fin cfg1.N) (d) : (dat W c).before 1 t d = blk W c 1 t :=
  ((dat W c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem leaves_1 (c : Dev nD) (t : Fin cfg1.N) : (dat W c).leavesExact 1 t = owns (c : Thread nD τ) (st1_1 t) fullShare (blk W c 1 t) := by
  unfold Dat.leavesExact; rw [show cfg1.idle 1 (cfg1.grid.coords t) = false from rfl]; dsimp only [dat]

theorem after_2 (c : Dev nD) (t : Fin cfg1.N) : (dat W c).after 2 t = blk W c 2 t := by dsimp only [dat]
theorem before_2 (c : Dev nD) (t : Fin cfg1.N) (d) : (dat W c).before 2 t d = blk W c 2 t :=
  ((dat W c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem leaves_2 (c : Dev nD) (t : Fin cfg1.N) : (dat W c).leavesExact 2 t = owns (c : Thread nD τ) (st1_2 t) fullShare (blk W c 2 t) := by
  unfold Dat.leavesExact; rw [show cfg1.idle 2 (cfg1.grid.coords t) = false from rfl]; dsimp only [dat]

theorem after_3 (c : Dev nD) (t : Fin cfg1.N) : (dat W c).after 3 t = blk W c 3 t := by dsimp only [dat]
theorem before_3 (c : Dev nD) (t : Fin cfg1.N) (d) : (dat W c).before 3 t d = blk W c 3 t :=
  ((dat W c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem leaves_3 (c : Dev nD) (t : Fin cfg1.N) : (dat W c).leavesExact 3 t = owns (c : Thread nD τ) (st1_3 t) fullShare (blk W c 3 t) := by
  unfold Dat.leavesExact; rw [show cfg1.idle 3 (cfg1.grid.coords t) = false from rfl]; dsimp only [dat]

theorem after_4 (c : Dev nD) (t : Fin cfg1.N) : (dat W c).after 4 t = blk W c 4 t := by dsimp only [dat]
theorem before_4 (c : Dev nD) (t : Fin cfg1.N) (d) : (dat W c).before 4 t d = blk W c 4 t :=
  ((dat W c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)
theorem leaves_4 (c : Dev nD) (t : Fin cfg1.N) : (dat W c).leavesExact 4 t = owns (c : Thread nD τ) (st1_4 t) fullShare (blk W c 4 t) := by
  unfold Dat.leavesExact; rw [show cfg1.idle 4 (cfg1.grid.coords t) = false from rfl]; dsimp only [dat]

theorem leaves_5 (c : Dev nD) (t : Fin cfg1.N) :
    owns (c : Thread nD τ) (st1_5 t) fullShare (k1_pay2 (grid1.coords t) (rowBlk ⟨t.val, point t⟩ (W c main_v0)) (rowBlk ⟨t.val, point t⟩ (W c main_v3)) (W c main_v2))
      ⊢ ((dat W c).leavesExact 5 t : sProp 𝕄) := by
  unfold Dat.leavesExact
  rw [show cfg1.idle 5 (cfg1.grid.coords t) = false from rfl]
  exact .rfl

/-- The result's buffer after the body, as the pipeline asks for it. -/
theorem leaves_6 (c : Dev nD) (t : Fin cfg1.N) (hp : Vec F S4096x128 .f32) (y : Vec F S4096x128 .bf16) (h : Inv W c t.val hp y) (d) :
    owns (c : Thread nD τ) (st1_6 t) fullShare
        (h1 (grid1.coords t) (rowBlk ⟨t.val, point t⟩ (W c main_v0)) (rowBlk ⟨t.val, point t⟩ (W c main_v3)) (W c main_v2) (W c main_v1) (W c main_arg2) ((dat W c).before 6 t d) hp y)
      ⊢ ((dat W c).leavesExact 6 t : sProp 𝕄) := by
  have ht := point t
  by_cases h7 : t.val = 7
  · rw [h.last W h7]
    unfold Dat.leavesExact
    rw [show cfg1.idle 6 (cfg1.grid.coords t) = false from by
      show (!(k1_cond2 (grid1.coords t) == 1#1)) = false
      rw [(last_iff t).mpr h7]; rfl]
    exact .rfl
  · have hn : k1_cond2 (grid1.coords t) ≠ 1#1 := fun h' => h7 ((last_iff t).mp h')
    rw [(dat W c).leavesExact_idle 6 t (by
        show (!(k1_cond2 (grid1.coords t) == 1#1)) = true
        simp only [hn, beq_iff_eq, Bool.not_eq_true', beq_eq_false_iff_ne, ne_eq, not_false_iff])
      (by
        have := flush1_6 t
        rw [Nat.mod_eq_of_lt ht] at this
        exact Bool.eq_false_iff.mpr fun h' => h7 (this.mp h'))]
    unfold h1
    rw [if_neg hn]
    iintro H
    iexists d
    iexact H

/-- What the body is called with at a point. -/
def pre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d))
    ∗ (∃ d, owns (c : Thread nD τ) (st1_5 t) fullShare ((dat W c).before 5 t d))
    ∗ (∃ d, owns (c : Thread nD τ) (st1_6 t) fullShare ((dat W c).before 6 t d)))

/-- What it must leave. -/
def post (c : Dev nD) (t : Fin cfg1.N) : sProp 𝕄 :=
  iprop((dat W c).Φ t.succ ∗ (dat W c).owesAt () t.succ
    ∗ (dat W c).leavesExact 0 t ∗ (dat W c).leavesExact 1 t ∗ (dat W c).leavesExact 2 t ∗ (dat W c).leavesExact 3 t ∗ (dat W c).leavesExact 4 t ∗ (dat W c).leavesExact 5 t ∗ (dat W c).leavesExact 6 t)

theorem sound (c : Dev nD) (t : Fin cfg1.N) :
    pre W c t ⊢ wp frame (wpE (defs₀ (F := F)) Variants.none c none) Set.univ (bodyAt1 t) (fun _ => post W c t) := by
  unfold pre post bodyAt1
  simp only [before_0, before_1, before_2, before_3, before_4]
  rw [leaves_0, leaves_1, leaves_2, leaves_3, leaves_4, blk_0, blk_1, blk_2, blk_3, blk_4]
  rw [show (dat W c).owesAt () t.succ = (dat W c).owesAt () t.castSucc from rfl]
  rw [show (dat W c).Φ t.castSucc = Phi W c t.val from rfl, show (dat W c).Φ t.succ = Phi W c (t.val + 1) from rfl]
  unfold Phi
  iintro ⟨⟨⟨%s0, %s1, %hI, HS0, HS1⟩, Hrest, Hg⟩, Ho, ⟨%d0, H0⟩, ⟨%d1, H1⟩, ⟨%d2, H2⟩, ⟨%d3, H3⟩, ⟨%d4, H4⟩, ⟨%d5, H5⟩, ⟨%d6, H6⟩⟩
  iapply (run1 c (grid1.coords t) _ _ _ _ _ _ _ _ _ _ _ _ _ _ _ _ _ _ (rowBlk ⟨t.val, point t⟩ (W c main_v0)) (rowBlk ⟨t.val, point t⟩ (W c main_v3)) (W c main_v2) (W c main_v1) (W c main_arg2) ((dat W c).before 5 t d5) ((dat W c).before 6 t d6) s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hrest Hg]
  · isplitl [HS0 HS1]
    · iexists _; iexists _
      isplitr
      · ipureintro; exact hI.step
      isplitl [HS0]; · iexact HS0
      iexact HS1
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · ihave H := (leaves_5 W c t) $$ H5
    iexact H
  ihave H := (leaves_6 W c t s0 s1 hI d6) $$ H6
  iexact H

theorem row (t : Fin cfg1.N) : defs₀ (F := F) .tc cfg1.body (cfg1.bodyArgs t (cfg1.slots t)) = bodyAt1 t := by
  unfold defs₀; rw [Defs.onTc_tc]

theorem obligation (c : Dev nD) : BodyObligation (dat W c) (defs₀ (F := F)) Variants.none () Set.univ := fun t => by
  rw [bigSep_W1, bigSep_W1, row]
  exact triple_restated (sound W c t) rfl .rfl fun _ => .rfl

theorem hin (c : Dev nD) :
    iprop(Pipeline.scopedRest (Ix := Unit) (Name := ℕ) (U := UR sig nD τ) (Lvl := ℕ) (Val := Elt F) spec1 c ∗ (∃ r, prngReg c r)) ⊢ (dat W c).Φ 0 := by
  rw [show (dat W c).Φ 0 = Phi W c 0 from rfl, scopedRest1_split]
  unfold Phi
  simp only [← owns_whole]
  iintro ⟨⟨⟨⟨%f0, H0⟩, ⟨%f1, H1⟩⟩, Hrest⟩, Hg⟩
  isplitl [H0 H1]
  · iexists f0; iexists f1
    isplitr
    · ipureintro; exact ⟨Filled.zero _ _, fun h => absurd rfl h⟩
    isplitl [H0]; · iexact H0
    iexact H1
  isplitl [Hrest]; · iexact Hrest
  iexact Hg

theorem hout (c : Dev nD) :
    (dat W c).Φ (Fin.last cfg1.N)
      ⊢ iprop(Pipeline.scopedRest (Ix := Unit) (Name := ℕ) (U := UR sig nD τ) (Lvl := ℕ) (Val := Elt F) spec1 c ∗ (∃ r, prngReg c r)) := by
  rw [show (dat W c).Φ (Fin.last cfg1.N) = Phi W c cfg1.N from rfl, scopedRest1_split]
  unfold Phi
  simp only [← owns_whole]
  iintro ⟨⟨%s0, %s1, -, H0, H1⟩, Hrest, Hg⟩
  isplitl [H0 H1 Hrest]
  · isplitl [H0 H1]
    · isplitl [H0]
      · iexists _; iexact H0
      iexists _; iexact H1
    iexact Hrest
  iexact Hg

theorem idx_5 : ∀ t : Fin cfg1.N, win1_5.index t 0 = t.val ∧ win1_5.index t 1 = 0 := by decide +kernel
/-- The normalised matrix's array after the call. -/
theorem arrL (c : Dev nD) : (dat W c).arrAt 5 cfg1.N = resL W c := by
  refine (dat W c).arrAt_eq_of_covers 5 _ (by decide +kernel) fun t hf y => ?_
  blk_simp
  dsimp only [dat]
  unfold resL outNorm
  rw [coords t]
  refine rowsOf_at (fun t => k1_pay2 (pt8 t) (rowBlk t (W c main_v0)) (rowBlk t (W c main_v3)) (W c main_v2)) ⟨t.val, point t⟩ _ _ ?_ ?_
  · blk_simp [(idx_5 t).1]
  · blk_simp [(idx_5 t).2]

theorem idx_6 : ∀ t : Fin cfg1.N, ∀ a, win1_6.index t a = 0 := by decide +kernel
/-- The result's array after the call. -/
theorem arr (c : Dev nD) : (dat W c).arrAt 6 cfg1.N = res W c := by
  refine (dat W c).arrAt_eq_of_after_last 6 t1_7 (by decide +kernel) _ fun j => ?_
  blk_simp
  dsimp only [dat]
  blk_ext [idx_6 t1_7]

end R1

end Cert.KernelIdeal.Hand
-- ==== Proof.KReg2.lean ====
module

public import proofs.«01_k».proof.Proof.KSpec
public import proofs.«01_k».proof.Proof.Gen.KernelIdeal.Launch
public import Idealize.ShloMosaic.Lib.Pipeline.RegionArraysS
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

namespace R2

theorem point (t : Fin cfg2.N) : t.val < 8 := Nat.lt_of_lt_of_eq t.isLt N_2

theorem coord (t : Fin cfg2.N) : (grid2.coords t 0).val = t.val := by
  have e : (grid2.coords t 0).val = t.val / 1 % 8 := Pipeline.Grid.coords_val t 0 (by decide) rfl
  have := point t
  omega

theorem coords (t : Fin cfg2.N) : grid2.coords t = pt8 ⟨t.val, point t⟩ := by
  funext a
  match a with
  | ⟨0, _⟩ => exact Fin.ext (coord t)

theorem last_iff (t : Fin cfg2.N) : k2_cond2 (grid2.coords t) = 1#1 ↔ t.val = 7 := by
  have ht := point t
  simp only [k2_cond2, coord t]
  word_cmp

variable (W : Dev nD → Valuation τ sig (Elt F))

/-- A window's block at a point, of the arrays as the call finds them. -/
def blk (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

theorem idx_0 : ∀ t : Fin cfg2.N, win2_0.index t 0 = t.val ∧ win2_0.index t 1 = 0 := by decide +kernel
/-- Window 0's block is the point's row block. -/
theorem blk_0 (c : Dev nD) (t : Fin cfg2.N) : blk W c 0 t = rowBlk ⟨t.val, point t⟩ (W c main_v4_0) := by
  funext y
  unfold rowBlk
  blk_ext [blk, (idx_0 t).1, (idx_0 t).2]

theorem idx_1 : ∀ t : Fin cfg2.N, ∀ a, win2_1.index t a = 0 := by decide +kernel
/-- Window 1's block is the whole array. -/
theorem blk_1 (c : Dev nD) (t : Fin cfg2.N) : blk W c 1 t = W c main_v25 := by
  funext y
  blk_ext [blk, idx_1 t]

theorem idx_2 : ∀ t : Fin cfg2.N, ∀ a, win2_2.index t a = 0 := by decide +kernel
/-- Window 2's block is the whole array. -/
theorem blk_2 (c : Dev nD) (t : Fin cfg2.N) : blk W c 2 t = W c main_arg5 := by
  funext y
  blk_ext [blk, idx_2 t]

/-- What the call leaves in its result. -/
def res (c : Dev nD) : Vec F S4096x32 .f32 := outMore (W c main_v4_0) (W c main_v25) (W c main_arg5)

/-- What the scratch holds between the points: the rows already computed, and past the first point the half-width operand. -/
def Inv (c : Dev nD) (t : ℕ) (hp : Vec F S4096x32 .f32) (y : Vec F S4096x32 .bf16) : Prop := InvMore (W c main_v4_0) (W c main_v25) t hp y

variable {W} in
theorem Inv.step {c : Dev nD} {t : Fin cfg2.N} {hp : Vec F S4096x32 .f32} {y : Vec F S4096x32 .bf16} (h : Inv W c t.val hp y) :
    Inv W c (t.val + 1) (hp2 (grid2.coords t) (rowBlk ⟨t.val, point t⟩ (W c main_v4_0)) (W c main_v25) hp y) (y2 (grid2.coords t) (W c main_v25) y) := by
  rw [coords t]
  exact InvMore.step h (point t)

/-- At the last point the result's staging buffer is left at the result. -/
theorem Inv.last {c : Dev nD} {t : Fin cfg2.N} {hp : Vec F S4096x32 .f32} {y : Vec F S4096x32 .bf16} (h : Inv W c t.val hp y) (ht : t.val = 7)
    (d : Vec F S4096x32 .f32) :
    h2 (grid2.coords t) (rowBlk ⟨t.val, point t⟩ (W c main_v4_0)) (W c main_v25) (W c main_arg5) d hp y = res W c := by
  rw [coords t]
  exact InvMore.last h (point t) ht d

/-- The invariant between points. -/
def Phi (c : Dev nD) (t : ℕ) : sProp 𝕄 :=
  iprop((∃ s0, ∃ s1, ⌜Inv W c t s0 s1⌝ ∗ owns (c : Thread nD τ) (Memref.whole cc2_scratch0) fullShare s0 ∗ owns (c : Thread nD τ) (Memref.whole cc2_scratch1) fullShare s1)
    ∗ Pipeline.scopedRestBut (Ix := Unit) (Name := ℕ) (U := UR sig nD τ) (Lvl := ℕ) (Val := Elt F) spec2 c [cc2_scratch0, cc2_scratch1]
    ∗ (∃ r, prngReg c r))

/-- The proof data of the call entered at the arrays `W`. -/
def dat (c : Dev nD) : Dat τ (Elt F) Unit ℕ (UR sig nD τ) ℕ cfg2 c where
  A w := W c (Proc.devRef .tc (Pipeline.arrRef spec2 w))
  after w t := match w with
    | ⟨0, _⟩ => blk W c 0 t
    | ⟨1, _⟩ => blk W c 1 t
    | ⟨2, _⟩ => blk W c 2 t
    | ⟨3, _⟩ => res W c
    | ⟨_ + 4, h⟩ => absurd h (Nat.not_lt.2 (Nat.le_add_left _ _))
  Φ t := Phi W c t.val
  q _ := fullShare
  owed _ := 0

theorem A_eq (c : Dev nD) (w : Fin cfg2.W) : (dat W c).A w = W c (Proc.devRef .tc (Pipeline.arrRef spec2 w)) := by dsimp only [dat]

theorem after_0 (c : Dev nD) (t : Fin cfg2.N) : (dat W c).after 0 t = blk W c 0 t := by dsimp only [dat]
theorem before_0 (c : Dev nD) (t : Fin cfg2.N) (d) : (dat W c).before 0 t d = blk W c 0 t :=
  ((dat W c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem leaves_0 (c : Dev nD) (t : Fin cfg2.N) : (dat W c).leavesExact 0 t = owns (c : Thread nD τ) (st2_0 t) fullShare (blk W c 0 t) := by
  unfold Dat.leavesExact; rw [show cfg2.idle 0 (cfg2.grid.coords t) = false from rfl]; dsimp only [dat]

theorem after_1 (c : Dev nD) (t : Fin cfg2.N) : (dat W c).after 1 t = blk W c 1 t := by dsimp only [dat]
theorem before_1 (c : Dev nD) (t : Fin cfg2.N) (d) : (dat W c).before 1 t d = blk W c 1 t :=
  ((dat W c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem leaves_1 (c : Dev nD) (t : Fin cfg2.N) : (dat W c).leavesExact 1 t = owns (c : Thread nD τ) (st2_1 t) fullShare (blk W c 1 t) := by
  unfold Dat.leavesExact; rw [show cfg2.idle 1 (cfg2.grid.coords t) = false from rfl]; dsimp only [dat]

theorem after_2 (c : Dev nD) (t : Fin cfg2.N) : (dat W c).after 2 t = blk W c 2 t := by dsimp only [dat]
theorem before_2 (c : Dev nD) (t : Fin cfg2.N) (d) : (dat W c).before 2 t d = blk W c 2 t :=
  ((dat W c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem leaves_2 (c : Dev nD) (t : Fin cfg2.N) : (dat W c).leavesExact 2 t = owns (c : Thread nD τ) (st2_2 t) fullShare (blk W c 2 t) := by
  unfold Dat.leavesExact; rw [show cfg2.idle 2 (cfg2.grid.coords t) = false from rfl]; dsimp only [dat]

/-- The result's buffer after the body, as the pipeline asks for it. -/
theorem leaves_3 (c : Dev nD) (t : Fin cfg2.N) (hp : Vec F S4096x32 .f32) (y : Vec F S4096x32 .bf16) (h : Inv W c t.val hp y) (d) :
    owns (c : Thread nD τ) (st2_3 t) fullShare
        (h2 (grid2.coords t) (rowBlk ⟨t.val, point t⟩ (W c main_v4_0)) (W c main_v25) (W c main_arg5) ((dat W c).before 3 t d) hp y)
      ⊢ ((dat W c).leavesExact 3 t : sProp 𝕄) := by
  have ht := point t
  by_cases h7 : t.val = 7
  · rw [h.last W h7]
    unfold Dat.leavesExact
    rw [show cfg2.idle 3 (cfg2.grid.coords t) = false from by
      show (!(k2_cond2 (grid2.coords t) == 1#1)) = false
      rw [(last_iff t).mpr h7]; rfl]
    exact .rfl
  · have hn : k2_cond2 (grid2.coords t) ≠ 1#1 := fun h' => h7 ((last_iff t).mp h')
    rw [(dat W c).leavesExact_idle 3 t (by
        show (!(k2_cond2 (grid2.coords t) == 1#1)) = true
        simp only [hn, beq_iff_eq, Bool.not_eq_true', beq_eq_false_iff_ne, ne_eq, not_false_iff])
      (by
        have := flush2_3 t
        rw [Nat.mod_eq_of_lt ht] at this
        exact Bool.eq_false_iff.mpr fun h' => h7 (this.mp h'))]
    unfold h2
    rw [if_neg hn]
    iintro H
    iexists d
    iexact H

/-- What the body is called with at a point. -/
def pre (c : Dev nD) (t : Fin cfg2.N) : sProp 𝕄 :=
  iprop((dat W c).Φ t.castSucc ∗ (dat W c).owesAt () t.castSucc
    ∗ (∃ d, owns (c : Thread nD τ) (st2_0 t) fullShare ((dat W c).before 0 t d))
    ∗ (∃ d, owns (c : Thread nD τ) (st2_1 t) fullShare ((dat W c).before 1 t d))
    ∗ (∃ d, owns (c : Thread nD τ) (st2_2 t) fullShare ((dat W c).before 2 t d))
    ∗ (∃ d, owns (c : Thread nD τ) (st2_3 t) fullShare ((dat W c).before 3 t d)))

/-- What it must leave. -/
def post (c : Dev nD) (t : Fin cfg2.N) : sProp 𝕄 :=
  iprop((dat W c).Φ t.succ ∗ (dat W c).owesAt () t.succ
    ∗ (dat W c).leavesExact 0 t ∗ (dat W c).leavesExact 1 t ∗ (dat W c).leavesExact 2 t ∗ (dat W c).leavesExact 3 t)

theorem sound (c : Dev nD) (t : Fin cfg2.N) :
    pre W c t ⊢ wp frame (wpE (defs₀ (F := F)) Variants.none c none) Set.univ (bodyAt2 t) (fun _ => post W c t) := by
  unfold pre post bodyAt2
  simp only [before_0, before_1, before_2]
  rw [leaves_0, leaves_1, leaves_2, blk_0, blk_1, blk_2]
  rw [show (dat W c).owesAt () t.succ = (dat W c).owesAt () t.castSucc from rfl]
  rw [show (dat W c).Φ t.castSucc = Phi W c t.val from rfl, show (dat W c).Φ t.succ = Phi W c (t.val + 1) from rfl]
  unfold Phi
  iintro ⟨⟨⟨%s0, %s1, %hI, HS0, HS1⟩, Hrest, Hg⟩, Ho, ⟨%d0, H0⟩, ⟨%d1, H1⟩, ⟨%d2, H2⟩, ⟨%d3, H3⟩⟩
  iapply (run2 c (grid2.coords t) _ _ _ _ _ _ _ _ _ _ _ _ (rowBlk ⟨t.val, point t⟩ (W c main_v4_0)) (W c main_v25) (W c main_arg5) ((dat W c).before 3 t d3) s0 s1 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1 Hrest Hg]
  · isplitl [HS0 HS1]
    · iexists _; iexists _
      isplitr
      · ipureintro; exact hI.step
      isplitl [HS0]; · iexact HS0
      iexact HS1
    isplitl [Hrest]; · iexact Hrest
    iexact Hg
  isplitl [Ho]; · iexact Ho
  isplitl [H0]; · iexact H0
  isplitl [H1]; · iexact H1
  isplitl [H2]; · iexact H2
  ihave H := (leaves_3 W c t s0 s1 hI d3) $$ H3
  iexact H

theorem row (t : Fin cfg2.N) : defs₀ (F := F) .tc cfg2.body (cfg2.bodyArgs t (cfg2.slots t)) = bodyAt2 t := by
  unfold defs₀; rw [Defs.onTc_tc]

theorem obligation (c : Dev nD) : BodyObligation (dat W c) (defs₀ (F := F)) Variants.none () Set.univ := fun t => by
  rw [bigSep_W2, bigSep_W2, row]
  exact triple_restated (sound W c t) rfl .rfl fun _ => .rfl

theorem hin (c : Dev nD) :
    iprop(Pipeline.scopedRest (Ix := Unit) (Name := ℕ) (U := UR sig nD τ) (Lvl := ℕ) (Val := Elt F) spec2 c ∗ (∃ r, prngReg c r)) ⊢ (dat W c).Φ 0 := by
  rw [show (dat W c).Φ 0 = Phi W c 0 from rfl, scopedRest2_split]
  unfold Phi
  simp only [← owns_whole]
  iintro ⟨⟨⟨⟨%f0, H0⟩, ⟨%f1, H1⟩⟩, Hrest⟩, Hg⟩
  isplitl [H0 H1]
  · iexists f0; iexists f1
    isplitr
    · ipureintro; exact ⟨Filled.zero _ _, fun h => absurd rfl h⟩
    isplitl [H0]; · iexact H0
    iexact H1
  isplitl [Hrest]; · iexact Hrest
  iexact Hg

theorem hout (c : Dev nD) :
    (dat W c).Φ (Fin.last cfg2.N)
      ⊢ iprop(Pipeline.scopedRest (Ix := Unit) (Name := ℕ) (U := UR sig nD τ) (Lvl := ℕ) (Val := Elt F) spec2 c ∗ (∃ r, prngReg c r)) := by
  rw [show (dat W c).Φ (Fin.last cfg2.N) = Phi W c cfg2.N from rfl, scopedRest2_split]
  unfold Phi
  simp only [← owns_whole]
  iintro ⟨⟨%s0, %s1, -, H0, H1⟩, Hrest, Hg⟩
  isplitl [H0 H1 Hrest]
  · isplitl [H0 H1]
    · isplitl [H0]
      · iexists _; iexact H0
      iexists _; iexact H1
    iexact Hrest
  iexact Hg

theorem idx_3 : ∀ t : Fin cfg2.N, ∀ a, win2_3.index t a = 0 := by decide +kernel
/-- The result's array after the call. -/
theorem arr (c : Dev nD) : (dat W c).arrAt 3 cfg2.N = res W c := by
  refine (dat W c).arrAt_eq_of_after_last 3 t2_7 (by decide +kernel) _ fun j => ?_
  blk_simp
  dsimp only [dat]
  blk_ext [idx_3 t2_7]

end R2

end Cert.KernelIdeal.Hand
-- ==== Proof.KReg3.lean ====
module

public import proofs.«01_k».proof.Proof.KSpec
public import proofs.«01_k».proof.Proof.Gen.KernelIdeal.Launch
public import Idealize.ShloMosaic.Lib.Pipeline.RegionArraysS
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

namespace R3

theorem point (t : Fin cfg3.N) : t.val < 8 := Nat.lt_of_lt_of_eq t.isLt N_3

theorem coord (t : Fin cfg3.N) : (grid3.coords t 0).val = t.val := by
  have e : (grid3.coords t 0).val = t.val / 1 % 8 := Pipeline.Grid.coords_val t 0 (by decide) rfl
  have := point t
  omega

theorem coords (t : Fin cfg3.N) : grid3.coords t = pt8 ⟨t.val, point t⟩ := by
  funext a
  match a with
  | ⟨0, _⟩ => exact Fin.ext (coord t)

theorem last_iff (t : Fin cfg3.N) : k2_cond2 (grid3.coords t) = 1#1 ↔ t.val = 7 := by
  have ht := point t
  simp only [k2_cond2, coord t]
  word_cmp

variable (W : Dev nD → Valuation τ sig (Elt F))

/-- A window's block at a point, of the arrays as the call finds them. -/
def blk (c : Dev nD) (w : Fin cfg3.W) (t : Fin cfg3.N) : ((cfg3.win w).xblock (cfg3.grid.coords t)).Idx → Elt F (cfg3.win w).elt :=
  ((cfg3.win w).blk t).view.read (Elt F) (W c (Proc.devRef .tc (Pipeline.arrRef spec3 w)))

theorem idx_0 : ∀ t : Fin cfg3.N, win3_0.index t 0 = t.val ∧ win3_0.index t 1 = 0 := by decide +kernel
/-- Window 0's block is the point's row block. -/
theorem blk_0 (c : Dev nD) (t : Fin cfg3.N) : blk W c 0 t = rowBlk ⟨t.val, point t⟩ (W c main_v4_0) := by
  funext y
  unfold rowBlk
  blk_ext [blk, (idx_0 t).1, (idx_0 t).2]

theorem idx_1 : ∀ t : Fin cfg3.N, ∀ a, win3_1.index t a = 0 := by decide +kernel
/-- Window 1's block is the whole array. -/
theorem blk_1 (c : Dev nD) (t : Fin cfg3.N) : blk W c 1 t = W c main_v47 := by
  funext y
  blk_ext [blk, idx_1 t]

theorem idx_2 : ∀ t : Fin cfg3.N, ∀ a, win3_2.index t a = 0 := by decide +kernel
/-- Window 2's block is the whole array. -/
theorem blk_2 (c : Dev nD) (t : Fin cfg3.N) : blk W c 2 t = W c main_arg8 := by
  funext y
  blk_ext [blk, idx_2 t]

/-- What the call leaves in its result. -/
def res (c : Dev nD) : Vec F S4096x32 .f32 := outMore (W c main_v4_0) (W c main_v47) (W c main_arg8)

/-- What the scratch holds between the points: the rows already computed, and past the first point the half-width operand. -/
def Inv (c : Dev nD) (t : ℕ) (hp : Vec F S4096x32 .f32) (y : Vec F S4096x32 .bf16) : Prop := InvMore (W c main_v4_0) (W c main_v47) t hp y

variable {W} in
theorem Inv.step {c : Dev nD} {t : Fin cfg3.N} {hp : Vec F S4096x32 .f32} {y : Vec F S4096x32 .bf16} (h : Inv W c t.val hp y) :
    Inv W c (t.val + 1) (hp2 (grid3.coords t) (rowBlk ⟨t.val, point t⟩ (W c main_v4_0)) (W c main_v47) hp y) (y2 (grid3.coords t) (W c main_v47) y) := by
  rw [coords t]
  exact InvMore.step h (point t)

/-- At the last point the result's staging buffer is left at the result. -/
theorem Inv.last {c : Dev nD} {t : Fin cfg3.N} {hp : Vec F S4096x32 .f32} {y : Vec F S4096x32 .bf16} (h : Inv W c t.val hp y) (ht : t.val = 7)
    (d : Vec F S4096x32 .f32) :
    h2 (grid3.coords t) (rowBlk ⟨t.val, point t⟩ (W c main_v4_0)) (W c main_v47) (W c main_arg8) d hp y = res W c := by
  rw [coords t]
  exact InvMore.last h (point t) ht d

theorem body3 : @cc3__layerN_body F _ = @cc2__layerN_body F _ := rfl

/-- The invariant between points. -/
def Phi (c : Dev nD) (t : ℕ) : sProp 𝕄 :=
  iprop((∃ s0, ∃ s1, ⌜Inv W c t s0 s1⌝ ∗ owns (c : Thread nD τ) (Memref.whole cc3_scratch0) fullShare s0 ∗ owns (c : Thread nD τ) (Memref.whole cc3_scratch1) fullShare s1)
    ∗ Pipeline.scopedRestBut (Ix := Unit) (Name := ℕ) (U := UR sig nD τ) (Lvl := ℕ) (Val := Elt F) spec3 c [cc3_scratch0, cc3_scratch1]
    ∗ (∃ r, prngReg c r))

/-- The proof data of the call entered at the arrays `W`. -/
def dat (c : Dev nD) : Dat τ (Elt F) Unit ℕ (UR sig nD τ) ℕ cfg3 c where
  A w := W c (Proc.devRef .tc (Pipeline.arrRef spec3 w))
  after w t := match w with
    | ⟨0, _⟩ => blk W c 0 t
    | ⟨1, _⟩ => blk W c 1 t
    | ⟨2, _⟩ => blk W c 2 t
    | ⟨3, _⟩ => res W c
    | ⟨_ + 4, h⟩ => absurd h (Nat.not_lt.2 (Nat.le_add_left _ _))
  Φ t := Phi W c t.val
  q _ := fullShare
  owed _ := 0

theorem A_eq (c : Dev nD) (w : Fin cfg3.W) : (dat W c).A w = W c (Proc.devRef .tc (Pipeline.arrRef spec3 w)) := by dsimp only [dat]

theorem after_0 (c : Dev nD) (t : Fin cfg3.N) : (dat W c).after 0 t = blk W c 0 t := by dsimp only [dat]
theorem before_0 (c : Dev nD) (t : Fin cfg3.N) (d) : (dat W c).before 0 t d = blk W c 0 t :=
  ((dat W c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem leaves_0 (c : Dev nD) (t : Fin cfg3.N) : (dat W c).leavesExact 0 t = owns (c : Thread nD τ) (st3_0 t) fullShare (blk W c 0 t) := by
  unfold Dat.leavesExact; rw [show cfg3.idle 0 (cfg3.grid.coords t) = false from rfl]; dsimp only [dat]

theorem after_1 (c : Dev nD) (t : Fin cfg3.N) : (dat W c).after 1 t = blk W c 1 t := by dsimp only [dat]
theorem before_1 (c : Dev nD) (t : Fin cfg3.N) (d) : (dat W c).before 1 t d = blk W c 1 t :=
  ((dat W c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem leaves_1 (c : Dev nD) (t : Fin cfg3.N) : (dat W c).leavesExact 1 t = owns (c : Thread nD τ) (st3_1 t) fullShare (blk W c 1 t) := by
  unfold Dat.leavesExact; rw [show cfg3.idle 1 (cfg3.grid.coords t) = false from rfl]; dsimp only [dat]

theorem after_2 (c : Dev nD) (t : Fin cfg3.N) : (dat W c).after 2 t = blk W c 2 t := by dsimp only [dat]
theorem before_2 (c : Dev nD) (t : Fin cfg3.N) (d) : (dat W c).before 2 t d = blk W c 2 t :=
  ((dat W c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem leaves_2 (c : Dev nD) (t : Fin cfg3.N) : (dat W c).leavesExact 2 t = owns (c : Thread nD τ) (st3_2 t) fullShare (blk W c 2 t) := by
  unfold Dat.leavesExact; rw [show cfg3.idle 2 (cfg3.grid.coords t) = false from rfl]; dsimp only [dat]

/-- The result's buffer after the body, as the pipeline asks for it. -/
theorem leaves_3 (c : Dev nD) (t : Fin cfg3.N) (hp : Vec F S4096x32 .f32) (y : Vec F S4096x32 .bf16) (h : Inv W c t.val hp y) (d) :
    owns (c : Thread nD τ) (st3_3 t) fullShare
        (h2 (grid3.coords t) (rowBlk ⟨t.val, point t⟩ (W c main_v4_0)) (W c main_v47) (W c main_arg8) ((dat W c).before 3 t d) hp y)
      ⊢ ((dat W c).leavesExact 3 t : sProp 𝕄) := by
  have ht := point t
  by_cases h7 : t.val = 7
  · rw [h.last W h7]
    unfold Dat.leavesExact
    rw [show cfg3.idle 3 (cfg3.grid.coords t) = false from by
      show (!(k2_cond2 (grid3.coords t) == 1#1)) = false
      rw [(last_iff t).mpr h7]; rfl]
    exact .rfl
  · have hn : k2_cond2 (grid3.coords t) ≠ 1#1 := fun h' => h7 ((last_iff t).mp h')
    rw [(dat W c).leavesExact_idle 3 t (by
        show (!(k2_cond2 (grid3.coords t) == 1#1)) = true
        simp only [hn, beq_iff_eq, Bool.not_eq_true', beq_eq_false_iff_ne, ne_eq, not_false_iff])
      (by
        have := flush3_3 t
        rw [Nat.mod_eq_of_lt ht] at this
        exact Bool.eq_false_iff.mpr fun h' => h7 (this.mp h'))]
    unfold h2
    rw [if_neg hn]
    iintro H
    iexists d
    iexact H

/-- What the body is called with at a point. -/
def pre (c : Dev nD) (t : Fin cfg3.N) : sProp 𝕄 :=
  iprop((dat W c).Φ t.castSucc ∗ (dat W c).owesAt () t.castSucc
    ∗ (∃ d, owns (c : Thread nD τ) (st3_0 t) fullShare ((dat W c).before 0 t d))
    ∗ (∃ d, owns (c : Thread nD τ) (st3_1 t) fullShare ((dat W c).before 1 t d))
    ∗ (∃ d, owns (c : Thread nD τ) (st3_2 t) fullShare ((dat W c).before 2 t d))
    ∗ (∃ d, owns (c : Thread nD τ) (st3_3 t) fullShare ((dat W c).before 3 t d)))

/-- What it must leave. -/
def post (c : Dev nD) (t : Fin cfg3.N) : sProp 𝕄 :=
  iprop((dat W c).Φ t.succ ∗ (dat W c).owesAt () t.succ
    ∗ (dat W c).leavesExact 0 t ∗ (dat W c).leavesExact 1 t ∗ (dat W c).leavesExact 2 t ∗ (dat W c).leavesExact 3 t)

theorem sound (c : Dev nD) (t : Fin cfg3.N) :
    pre W c t ⊢ wp frame (wpE (defs₀ (F := F)) Variants.none c none) Set.univ (bodyAt3 t) (fun _ => post W c t) := by
  unfold pre post bodyAt3
  rw [body3]
  simp only [before_0, before_1, before_2]
  rw [leaves_0, leaves_1, leaves_2, blk_0, blk_1, blk_2]
  rw [show (dat W c).owesAt () t.succ = (dat W c).owesAt () t.castSucc from rfl]
  rw [show (dat W c).Φ t.castSucc = Phi W c t.val from rfl, show (dat W c).Φ t.succ = Phi W c (t.val + 1) from rfl]
  unfold Phi
  iintro ⟨⟨⟨%s0, %s1, %hI, HS0, HS1⟩, Hrest, Hg⟩, Ho, ⟨%d0, H0⟩, ⟨%d1, H1⟩, ⟨%d2, H2⟩, ⟨%d3, H3⟩⟩
  iapply (run2 c (grid3.coords t) _ _ _ _ _ _ _ _ _ _ _ _ (rowBlk ⟨t.val, point t⟩ (W c main_v4_0)) (W c main_v47) (W c main_arg8) ((dat W c).before 3 t d3) s0 s1 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1 Hrest Hg]
  · isplitl [HS0 HS1]
    · iexists _; iexists _
      isplitr
      · ipureintro; exact hI.step
      isplitl [HS0]; · iexact HS0
      iexact HS1
    isplitl [Hrest]; · iexact Hrest
    iexact Hg
  isplitl [Ho]; · iexact Ho
  isplitl [H0]; · iexact H0
  isplitl [H1]; · iexact H1
  isplitl [H2]; · iexact H2
  ihave H := (leaves_3 W c t s0 s1 hI d3) $$ H3
  iexact H

theorem row (t : Fin cfg3.N) : defs₀ (F := F) .tc cfg3.body (cfg3.bodyArgs t (cfg3.slots t)) = bodyAt3 t := by
  unfold defs₀; rw [Defs.onTc_tc]

theorem obligation (c : Dev nD) : BodyObligation (dat W c) (defs₀ (F := F)) Variants.none () Set.univ := fun t => by
  rw [bigSep_W3, bigSep_W3, row]
  exact triple_restated (sound W c t) rfl .rfl fun _ => .rfl

theorem hin (c : Dev nD) :
    iprop(Pipeline.scopedRest (Ix := Unit) (Name := ℕ) (U := UR sig nD τ) (Lvl := ℕ) (Val := Elt F) spec3 c ∗ (∃ r, prngReg c r)) ⊢ (dat W c).Φ 0 := by
  rw [show (dat W c).Φ 0 = Phi W c 0 from rfl, scopedRest3_split]
  unfold Phi
  simp only [← owns_whole]
  iintro ⟨⟨⟨⟨%f0, H0⟩, ⟨%f1, H1⟩⟩, Hrest⟩, Hg⟩
  isplitl [H0 H1]
  · iexists f0; iexists f1
    isplitr
    · ipureintro; exact ⟨Filled.zero _ _, fun h => absurd rfl h⟩
    isplitl [H0]; · iexact H0
    iexact H1
  isplitl [Hrest]; · iexact Hrest
  iexact Hg

theorem hout (c : Dev nD) :
    (dat W c).Φ (Fin.last cfg3.N)
      ⊢ iprop(Pipeline.scopedRest (Ix := Unit) (Name := ℕ) (U := UR sig nD τ) (Lvl := ℕ) (Val := Elt F) spec3 c ∗ (∃ r, prngReg c r)) := by
  rw [show (dat W c).Φ (Fin.last cfg3.N) = Phi W c cfg3.N from rfl, scopedRest3_split]
  unfold Phi
  simp only [← owns_whole]
  iintro ⟨⟨%s0, %s1, -, H0, H1⟩, Hrest, Hg⟩
  isplitl [H0 H1 Hrest]
  · isplitl [H0 H1]
    · isplitl [H0]
      · iexists _; iexact H0
      iexists _; iexact H1
    iexact Hrest
  iexact Hg

theorem idx_3 : ∀ t : Fin cfg3.N, ∀ a, win3_3.index t a = 0 := by decide +kernel
/-- The result's array after the call. -/
theorem arr (c : Dev nD) : (dat W c).arrAt 3 cfg3.N = res W c := by
  refine (dat W c).arrAt_eq_of_after_last 3 t3_7 (by decide +kernel) _ fun j => ?_
  blk_simp
  dsimp only [dat]
  blk_ext [idx_3 t3_7]

end R3

end Cert.KernelIdeal.Hand
-- ==== Proof.KReg4.lean ====
module

public import proofs.«01_k».proof.Proof.KSpec
public import proofs.«01_k».proof.Proof.Gen.KernelIdeal.Launch
public import Idealize.ShloMosaic.Lib.Pipeline.RegionArraysS
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

namespace R4

theorem point (t : Fin cfg4.N) : t.val < 8 := Nat.lt_of_lt_of_eq t.isLt N_4

theorem coord (t : Fin cfg4.N) : (grid4.coords t 0).val = t.val := by
  have e : (grid4.coords t 0).val = t.val / 1 % 8 := Pipeline.Grid.coords_val t 0 (by decide) rfl
  have := point t
  omega

theorem coords (t : Fin cfg4.N) : grid4.coords t = pt8 ⟨t.val, point t⟩ := by
  funext a
  match a with
  | ⟨0, _⟩ => exact Fin.ext (coord t)

theorem first_iff (t : Fin cfg4.N) : k4_cond1 (grid4.coords t) = 1#1 ↔ t.val = 0 := by
  have ht := point t
  simp only [k4_cond1, coord t]
  word_cmp

variable (W : Dev nD → Valuation τ sig (Elt F))

/-- A window's block at a point, of the arrays as the call finds them. -/
def blk (c : Dev nD) (w : Fin cfg4.W) (t : Fin cfg4.N) : ((cfg4.win w).xblock (cfg4.grid.coords t)).Idx → Elt F (cfg4.win w).elt :=
  ((cfg4.win w).blk t).view.read (Elt F) (W c (Proc.devRef .tc (Pipeline.arrRef spec4 w)))

theorem idx_0 : ∀ t : Fin cfg4.N, ∀ a, win4_0.index t a = 0 := by decide +kernel
/-- Window 0's block is the whole array. -/
theorem blk_0 (c : Dev nD) (t : Fin cfg4.N) : blk W c 0 t = W c main_v25 := by
  funext y
  blk_ext [blk, idx_0 t]

theorem idx_1 : ∀ t : Fin cfg4.N, ∀ a, win4_1.index t a = 0 := by decide +kernel
/-- Window 1's block is the whole array. -/
theorem blk_1 (c : Dev nD) (t : Fin cfg4.N) : blk W c 1 t = W c main_v47 := by
  funext y
  blk_ext [blk, idx_1 t]

theorem idx_2 : ∀ t : Fin cfg4.N, ∀ a, win4_2.index t a = 0 := by decide +kernel
/-- Window 2's block is the whole array. -/
theorem blk_2 (c : Dev nD) (t : Fin cfg4.N) : blk W c 2 t = W c main_v69 := by
  funext y
  blk_ext [blk, idx_2 t]

theorem idx_3 : ∀ t : Fin cfg4.N, ∀ a, win4_3.index t a = 0 := by decide +kernel
/-- Window 3's block is the whole array. -/
theorem blk_3 (c : Dev nD) (t : Fin cfg4.N) : blk W c 3 t = W c main_arg11 := by
  funext y
  blk_ext [blk, idx_3 t]

theorem idx_4 : ∀ t : Fin cfg4.N, ∀ a, win4_4.index t a = 0 := by decide +kernel
/-- Window 4's block is the whole array. -/
theorem blk_4 (c : Dev nD) (t : Fin cfg4.N) : blk W c 4 t = W c main_v70 := by
  funext y
  blk_ext [blk, idx_4 t]

theorem idx_5 : ∀ t : Fin cfg4.N, ∀ a, win4_5.index t a = 0 := by decide +kernel
/-- Window 5's block is the whole array. -/
theorem blk_5 (c : Dev nD) (t : Fin cfg4.N) : blk W c 5 t = W c main_arg13 := by
  funext y
  blk_ext [blk, idx_5 t]

theorem idx_6 : ∀ t : Fin cfg4.N, ∀ a, win4_6.index t a = 0 := by decide +kernel
/-- Window 6's block is the whole array. -/
theorem blk_6 (c : Dev nD) (t : Fin cfg4.N) : blk W c 6 t = W c main_v71 := by
  funext y
  blk_ext [blk, idx_6 t]

/-- The decoder's hidden rows. -/
def hid (c : Dev nD) : Vec F S4096x32 .f32 := k4_pay6 (W c main_v25) (W c main_v47) (W c main_v69) (W c main_arg11) (W c main_v70)
/-- What the call leaves in its results. -/
def resMap (c : Dev nD) : Vec F S4096x4096 .f32 := outMap (W c main_v25) (W c main_v47) (W c main_v69) (W c main_arg11) (W c main_v70)
def resSeq (c : Dev nD) : Vec F S4096x22 .f32 := seq4 (W c main_v25) (W c main_v47) (W c main_v69) (W c main_arg13) (W c main_v71)

/-- What the scratch holds between the points, past the first: the hidden rows. -/
def Inv (c : Dev nD) (t : ℕ) (z : Vec F S4096x32 .f32) : Prop := t ≠ 0 → z = hid W c

variable {W} in
theorem Inv.kept {c : Dev nD} {t : Fin cfg4.N} {z : Vec F S4096x32 .f32} (h : Inv W c t.val z) :
    z4 (grid4.coords t) (W c main_v25) (W c main_v47) (W c main_v69) (W c main_arg11) (W c main_v70) z = hid W c := by
  unfold z4
  by_cases h0 : t.val = 0
  · rw [if_pos ((first_iff t).mpr h0)]; rfl
  · rw [if_neg fun hf => h0 ((first_iff t).mp hf)]
    exact h h0

variable {W} in
theorem Inv.step {c : Dev nD} {t : Fin cfg4.N} {z : Vec F S4096x32 .f32} (h : Inv W c t.val z) :
    Inv W c (t.val + 1) (z4 (grid4.coords t) (W c main_v25) (W c main_v47) (W c main_v69) (W c main_arg11) (W c main_v70) z) := fun _ => h.kept

theorem map_rows (c : Dev nD) (t : Fin cfg4.N) : map4 (grid4.coords t) (hid W c) = k4_pay2 (rowBlk ⟨t.val, point t⟩ (hid W c)) (hid W c) := by
  unfold map4
  refine congrArg (k4_pay2 · _) (window_rows _ ⟨t.val, point t⟩ _ ?_ rfl _)
  show (Scalar.indexCast (Scalar.muli (BitVec.ofNat 32 (grid4.coords t 0).val) 512#32)).toNat = _
  rw [coord t]
  exact word_rows _ (point t)

/-- The invariant between points. -/
def Phi (c : Dev nD) (t : ℕ) : sProp 𝕄 :=
  iprop((∃ s0, ⌜Inv W c t s0⌝ ∗ owns (c : Thread nD τ) (Memref.whole cc4_scratch0) fullShare s0)
    ∗ Pipeline.scopedRestBut (Ix := Unit) (Name := ℕ) (U := UR sig nD τ) (Lvl := ℕ) (Val := Elt F) spec4 c [cc4_scratch0]
    ∗ (∃ r, prngReg c r))

/-- The proof data of the call entered at the arrays `W`. -/
def dat (c : Dev nD) : Dat τ (Elt F) Unit ℕ (UR sig nD τ) ℕ cfg4 c where
  A w := W c (Proc.devRef .tc (Pipeline.arrRef spec4 w))
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => blk W c 5 t
    | ⟨6, _⟩ => blk W c 6 t
    | ⟨7, _⟩ => map4 (grid4.coords t) (hid W c)
    | ⟨8, _⟩ => resSeq W c
    | ⟨_ + 9, h⟩ => absurd h (Nat.not_lt.2 (Nat.le_add_left _ _))
  Φ t := Phi W c t.val
  q _ := fullShare
  owed _ := 0

theorem A_eq (c : Dev nD) (w : Fin cfg4.W) : (dat W c).A w = W c (Proc.devRef .tc (Pipeline.arrRef spec4 w)) := by dsimp only [dat]

theorem after_0 (c : Dev nD) (t : Fin cfg4.N) : (dat W c).after 0 t = blk W c 0 t := by dsimp only [dat]
theorem before_0 (c : Dev nD) (t : Fin cfg4.N) (d) : (dat W c).before 0 t d = blk W c 0 t :=
  ((dat W c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem leaves_0 (c : Dev nD) (t : Fin cfg4.N) : (dat W c).leavesExact 0 t = owns (c : Thread nD τ) (st4_0 t) fullShare (blk W c 0 t) := by
  unfold Dat.leavesExact; rw [show cfg4.idle 0 (cfg4.grid.coords t) = false from rfl]; dsimp only [dat]

theorem after_1 (c : Dev nD) (t : Fin cfg4.N) : (dat W c).after 1 t = blk W c 1 t := by dsimp only [dat]
theorem before_1 (c : Dev nD) (t : Fin cfg4.N) (d) : (dat W c).before 1 t d = blk W c 1 t :=
  ((dat W c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem leaves_1 (c : Dev nD) (t : Fin cfg4.N) : (dat W c).leavesExact 1 t = owns (c : Thread nD τ) (st4_1 t) fullShare (blk W c 1 t) := by
  unfold Dat.leavesExact; rw [show cfg4.idle 1 (cfg4.grid.coords t) = false from rfl]; dsimp only [dat]

theorem after_2 (c : Dev nD) (t : Fin cfg4.N) : (dat W c).after 2 t = blk W c 2 t := by dsimp only [dat]
theorem before_2 (c : Dev nD) (t : Fin cfg4.N) (d) : (dat W c).before 2 t d = blk W c 2 t :=
  ((dat W c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem leaves_2 (c : Dev nD) (t : Fin cfg4.N) : (dat W c).leavesExact 2 t = owns (c : Thread nD τ) (st4_2 t) fullShare (blk W c 2 t) := by
  unfold Dat.leavesExact; rw [show cfg4.idle 2 (cfg4.grid.coords t) = false from rfl]; dsimp only [dat]

theorem after_3 (c : Dev nD) (t : Fin cfg4.N) : (dat W c).after 3 t = blk W c 3 t := by dsimp only [dat]
theorem before_3 (c : Dev nD) (t : Fin cfg4.N) (d) : (dat W c).before 3 t d = blk W c 3 t :=
  ((dat W c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem leaves_3 (c : Dev nD) (t : Fin cfg4.N) : (dat W c).leavesExact 3 t = owns (c : Thread nD τ) (st4_3 t) fullShare (blk W c 3 t) := by
  unfold Dat.leavesExact; rw [show cfg4.idle 3 (cfg4.grid.coords t) = false from rfl]; dsimp only [dat]

theorem after_4 (c : Dev nD) (t : Fin cfg4.N) : (dat W c).after 4 t = blk W c 4 t := by dsimp only [dat]
theorem before_4 (c : Dev nD) (t : Fin cfg4.N) (d) : (dat W c).before 4 t d = blk W c 4 t :=
  ((dat W c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)
theorem leaves_4 (c : Dev nD) (t : Fin cfg4.N) : (dat W c).leavesExact 4 t = owns (c : Thread nD τ) (st4_4 t) fullShare (blk W c 4 t) := by
  unfold Dat.leavesExact; rw [show cfg4.idle 4 (cfg4.grid.coords t) = false from rfl]; dsimp only [dat]

theorem after_5 (c : Dev nD) (t : Fin cfg4.N) : (dat W c).after 5 t = blk W c 5 t := by dsimp only [dat]
theorem before_5 (c : Dev nD) (t : Fin cfg4.N) (d) : (dat W c).before 5 t d = blk W c 5 t :=
  ((dat W c).before_in_eq_fetched 5 rfl (fun _ => rfl) (fun _ _ _ => rfl) (fun t => by rw [after_5]; unfold Dat.blockOf blk; rw [A_eq]; try rfl) t d).trans
    (by unfold Dat.fetched Dat.blockOf blk; rw [A_eq]; try rfl)
theorem leaves_5 (c : Dev nD) (t : Fin cfg4.N) : (dat W c).leavesExact 5 t = owns (c : Thread nD τ) (st4_5 t) fullShare (blk W c 5 t) := by
  unfold Dat.leavesExact; rw [show cfg4.idle 5 (cfg4.grid.coords t) = false from rfl]; dsimp only [dat]

theorem after_6 (c : Dev nD) (t : Fin cfg4.N) : (dat W c).after 6 t = blk W c 6 t := by dsimp only [dat]
theorem before_6 (c : Dev nD) (t : Fin cfg4.N) (d) : (dat W c).before 6 t d = blk W c 6 t :=
  ((dat W c).before_in_eq_fetched 6 rfl (fun _ => rfl) (fun _ _ _ => rfl) (fun t => by rw [after_6]; unfold Dat.blockOf blk; rw [A_eq]; try rfl) t d).trans
    (by unfold Dat.fetched Dat.blockOf blk; rw [A_eq]; try rfl)
theorem leaves_6 (c : Dev nD) (t : Fin cfg4.N) : (dat W c).leavesExact 6 t = owns (c : Thread nD τ) (st4_6 t) fullShare (blk W c 6 t) := by
  unfold Dat.leavesExact; rw [show cfg4.idle 6 (cfg4.grid.coords t) = false from rfl]; dsimp only [dat]

theorem leaves_7 (c : Dev nD) (t : Fin cfg4.N) (z : Vec F S4096x32 .f32) (h : Inv W c t.val z) :
    owns (c : Thread nD τ) (st4_7 t) fullShare (map4 (grid4.coords t) (z4 (grid4.coords t) (W c main_v25) (W c main_v47) (W c main_v69) (W c main_arg11) (W c main_v70) z))
      ⊢ ((dat W c).leavesExact 7 t : sProp 𝕄) := by
  rw [h.kept]
  unfold Dat.leavesExact
  rw [show cfg4.idle 7 (cfg4.grid.coords t) = false from rfl]
  exact .rfl

theorem idle_8 (t : Fin cfg4.N) : cfg4.idle 8 (cfg4.grid.coords t) = !decide (t.val = 0) := by
  show (!(k4_cond1 (grid4.coords t) == 1#1)) = !decide (t.val = 0)
  by_cases h : t.val = 0
  · rw [(first_iff t).mpr h, decide_eq_true h]; rfl
  · have : ¬ k4_cond1 (grid4.coords t) = 1#1 := fun h' => h ((first_iff t).mp h')
    rw [decide_eq_false h, beq_eq_false_iff_ne.mpr this]

theorem flush_8 (t : Fin cfg4.N) (ht : t.val ≠ 7) : (cfg4.win 8).flush t = false := by
  have := flush4_8 t
  rw [Nat.mod_eq_of_lt (point t)] at this
  exact Bool.eq_false_iff.mpr fun h' => ht (this.mp h')

/-- Past the first point the second result's buffer is found as the first point left it. -/
theorem before_8 (c : Dev nD) (d) : ∀ (n : ℕ) (hn : n + 1 < cfg4.N), (dat W c).before 8 ⟨n + 1, hn⟩ d = resSeq W c := by
  intro n
  induction n with
  | zero =>
    intro hn
    rw [(dat W c).before_of_pos 8 ⟨1, hn⟩ (by simp) rfl d]
    rw [if_neg (by rw [flush_8 _ (by simp)]; simp)]
    unfold Dat.left
    rw [idle_8]
    rfl
  | succ n ih =>
    intro hn
    have h8 := point ⟨n + 1 + 1, hn⟩
    rw [(dat W c).before_of_pos 8 ⟨n + 1 + 1, hn⟩ (by simp) rfl d]
    rw [if_neg (by rw [flush_8 _ (by dsimp only at h8 ⊢; omega)]; simp)]
    unfold Dat.left
    rw [idle_8, decide_eq_false (by simp)]
    exact ih (Nat.lt_of_succ_lt hn)

theorem leaves_8 (c : Dev nD) (t : Fin cfg4.N) (d) :
    owns (c : Thread nD τ) (st4_8 t) fullShare (s4 (grid4.coords t) (W c main_v25) (W c main_v47) (W c main_v69) (W c main_arg13) (W c main_v71) ((dat W c).before 8 t d))
      ⊢ ((dat W c).leavesExact 8 t : sProp 𝕄) := by
  by_cases h0 : t.val = 0
  · unfold s4 Dat.leavesExact
    rw [if_pos ((first_iff t).mpr h0), idle_8, decide_eq_true h0]
    exact .rfl
  · unfold s4
    rw [if_neg fun hf => h0 ((first_iff t).mp hf)]
    have hi : cfg4.idle 8 (cfg4.grid.coords t) = true := by rw [idle_8, decide_eq_false h0]; rfl
    by_cases h7 : t.val = 7
    · obtain ⟨t, ht⟩ := t
      dsimp only at h7
      subst h7
      rw [before_8 W c d 6 ht]
      unfold Dat.leavesExact
      rw [hi, (flush4_8 ⟨7, ht⟩).mpr rfl]
      exact .rfl
    · rw [(dat W c).leavesExact_idle 8 t hi (flush_8 t h7)]
      iintro H
      iexists d
      iexact H

/-- What the body is called with at a point. -/
def pre (c : Dev nD) (t : Fin cfg4.N) : sProp 𝕄 :=
  iprop((dat W c).Φ t.castSucc ∗ (dat W c).owesAt () t.castSucc
    ∗ (∃ d, owns (c : Thread nD τ) (st4_0 t) fullShare ((dat W c).before 0 t d))
    ∗ (∃ d, owns (c : Thread nD τ) (st4_1 t) fullShare ((dat W c).before 1 t d))
    ∗ (∃ d, owns (c : Thread nD τ) (st4_2 t) fullShare ((dat W c).before 2 t d))
    ∗ (∃ d, owns (c : Thread nD τ) (st4_3 t) fullShare ((dat W c).before 3 t d))
    ∗ (∃ d, owns (c : Thread nD τ) (st4_4 t) fullShare ((dat W c).before 4 t d))
    ∗ (∃ d, owns (c : Thread nD τ) (st4_5 t) fullShare ((dat W c).before 5 t d))
    ∗ (∃ d, owns (c : Thread nD τ) (st4_6 t) fullShare ((dat W c).before 6 t d))
    ∗ (∃ d, owns (c : Thread nD τ) (st4_7 t) fullShare ((dat W c).before 7 t d))
    ∗ (∃ d, owns (c : Thread nD τ) (st4_8 t) fullShare ((dat W c).before 8 t d)))

/-- What it must leave. -/
def post (c : Dev nD) (t : Fin cfg4.N) : sProp 𝕄 :=
  iprop((dat W c).Φ t.succ ∗ (dat W c).owesAt () t.succ
    ∗ (dat W c).leavesExact 0 t ∗ (dat W c).leavesExact 1 t ∗ (dat W c).leavesExact 2 t ∗ (dat W c).leavesExact 3 t ∗ (dat W c).leavesExact 4 t ∗ (dat W c).leavesExact 5 t ∗ (dat W c).leavesExact 6 t ∗ (dat W c).leavesExact 7 t ∗ (dat W c).leavesExact 8 t)

theorem sound (c : Dev nD) (t : Fin cfg4.N) :
    pre W c t ⊢ wp frame (wpE (defs₀ (F := F)) Variants.none c none) Set.univ (bodyAt4 t) (fun _ => post W c t) := by
  unfold pre post bodyAt4
  simp only [before_0, before_1, before_2, before_3, before_4, before_5, before_6]
  rw [leaves_0, leaves_1, leaves_2, leaves_3, leaves_4, leaves_5, leaves_6, blk_0, blk_1, blk_2, blk_3, blk_4, blk_5, blk_6]
  rw [show (dat W c).owesAt () t.succ = (dat W c).owesAt () t.castSucc from rfl]
  rw [show (dat W c).Φ t.castSucc = Phi W c t.val from rfl, show (dat W c).Φ t.succ = Phi W c (t.val + 1) from rfl]
  unfold Phi
  iintro ⟨⟨⟨%s0, %hI, HS0⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run4 c (grid4.coords t) _ _ _ _ _ _ _ _ _ _ _ _ _ _ _ _ _ _ _ _ (W c main_v25) (W c main_v47) (W c main_v69) (W c main_arg11) (W c main_v70) (W c main_arg13) (W c main_v71) ((dat W c).before 7 t d7) ((dat W c).before 8 t d8) s0 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  iintro ⟨H0, H1, H2, H3, H4, H5, H6, H7, H8, HS0⟩
  isplitl [HS0 Hrest Hg]
  · isplitl [HS0]
    · iexists _
      isplitr
      · ipureintro; exact hI.step
      iexact HS0
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · ihave H := (leaves_7 W c t s0 hI) $$ H7
    iexact H
  ihave H := (leaves_8 W c t d8) $$ H8
  iexact H

theorem row (t : Fin cfg4.N) : defs₀ (F := F) .tc cfg4.body (cfg4.bodyArgs t (cfg4.slots t)) = bodyAt4 t := by
  unfold defs₀; rw [Defs.onTc_tc]

theorem obligation (c : Dev nD) : BodyObligation (dat W c) (defs₀ (F := F)) Variants.none () Set.univ := fun t => by
  rw [bigSep_W4, bigSep_W4, row]
  exact triple_restated (sound W c t) rfl .rfl fun _ => .rfl

theorem hin (c : Dev nD) :
    iprop(Pipeline.scopedRest (Ix := Unit) (Name := ℕ) (U := UR sig nD τ) (Lvl := ℕ) (Val := Elt F) spec4 c ∗ (∃ r, prngReg c r)) ⊢ (dat W c).Φ 0 := by
  rw [show (dat W c).Φ 0 = Phi W c 0 from rfl, scopedRest4_split]
  unfold Phi
  simp only [← owns_whole]
  iintro ⟨⟨⟨%f0, H0⟩, Hrest⟩, Hg⟩
  isplitl [H0]
  · iexists f0
    isplitr
    · ipureintro; exact fun h => absurd rfl h
    iexact H0
  isplitl [Hrest]; · iexact Hrest
  iexact Hg

theorem hout (c : Dev nD) :
    (dat W c).Φ (Fin.last cfg4.N)
      ⊢ iprop(Pipeline.scopedRest (Ix := Unit) (Name := ℕ) (U := UR sig nD τ) (Lvl := ℕ) (Val := Elt F) spec4 c ∗ (∃ r, prngReg c r)) := by
  rw [show (dat W c).Φ (Fin.last cfg4.N) = Phi W c cfg4.N from rfl, scopedRest4_split]
  unfold Phi
  simp only [← owns_whole]
  iintro ⟨⟨%s0, -, H0⟩, Hrest, Hg⟩
  isplitl [H0 Hrest]
  · isplitl [H0]
    · iexists _; iexact H0
    iexact Hrest
  iexact Hg

theorem idx_7 : ∀ t : Fin cfg4.N, win4_7.index t 0 = t.val ∧ win4_7.index t 1 = 0 := by decide +kernel
/-- The first result's array after the call. -/
theorem arrMap (c : Dev nD) : (dat W c).arrAt 7 cfg4.N = resMap W c := by
  refine (dat W c).arrAt_eq_of_covers 7 _ (by decide +kernel) fun t hf y => ?_
  blk_simp
  dsimp only [dat]
  rw [map_rows]
  unfold resMap outMap
  refine rowsOf_at (fun t => k4_pay2 (rowBlk t (hid W c)) (hid W c)) ⟨t.val, point t⟩ _ _ ?_ ?_
  · blk_simp [(idx_7 t).1]
  · blk_simp [(idx_7 t).2]

theorem idx_8 : ∀ t : Fin cfg4.N, ∀ a, win4_8.index t a = 0 := by decide +kernel
/-- The result's array after the call. -/
theorem arrSeq (c : Dev nD) : (dat W c).arrAt 8 cfg4.N = resSeq W c := by
  refine (dat W c).arrAt_eq_of_after_last 8 t4_7 (by decide +kernel) _ fun j => ?_
  blk_simp
  dsimp only [dat]
  blk_ext [idx_8 t4_7]

end R4

end Cert.KernelIdeal.Hand
-- ==== Proof.KBufs.lean ====
module

public import proofs.«01_k».proof.Proof.KReg0
public import proofs.«01_k».proof.Proof.KReg1
public import proofs.«01_k».proof.Proof.KReg2
public import proofs.«01_k».proof.Proof.KReg3
public import proofs.«01_k».proof.Proof.KReg4
public import proofs.«01_k».proof.Proof.Gen.KernelIdeal.Regions

@[expose] public section

set_option maxRecDepth 16384

noncomputable section

/-!
The run of the whole program: the five calls with the host's operations between them.
The buffers' contents between two items are written over what the calls before leave, one call after another.
-/

namespace Cert.KernelIdeal.Hand

open Cert.KernelIdeal Cert.KernelIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf Seg HostSeg RegionSeg ucRefs afterRegion)

variable {F : FTy → Type} [FloatOps F]

local notation "𝕄" => MT nD τ sig Unit (Elt F) ℕ (UR sig nD τ) ℕ

/-! ## What a call changes -/

/-- Over the unscoped buffers a call changes only the arrays of its output windows: at most two, `r₀` and `r₁`. -/
theorem afterRegion_updates {Λ₀ : Idealize.SL.Sem.Labels} {cfg : Cfg sig Λ₀} {c : Dev nD} (dat : Dat τ (Elt F) Unit ℕ (UR sig nD τ) ℕ cfg c)
    (V : Valuation τ sig (Elt F)) (hinj : Function.Injective (Pipeline.arrRef cfg.spec)) (hA : ∀ w, dat.A w = V (Proc.devRef .tc (Pipeline.arrRef cfg.spec w)))
    (r₀ r₁ : Ref sig .tc) (h : ∀ w, Pipeline.arrRef cfg.spec w ≠ r₀ → Pipeline.arrRef cfg.spec w ≠ r₁ → (cfg.win w).isOut = false) :
    ∀ b ∈ ucRefs τ sig, afterRegion dat V b
      = Function.update (Function.update V (Proc.devRef .tc r₀) (afterRegion dat V (Proc.devRef .tc r₀))) (Proc.devRef .tc r₁) (afterRegion dat V (Proc.devRef .tc r₁)) b := by
  intro b hb
  obtain ⟨r, -, rfl⟩ := Finset.mem_map.mp (Finset.mem_filter.mp hb).1
  simp only [Function.Embedding.coeFn_mk]
  by_cases h1 : r = r₁
  · subst h1; rw [Function.update_self]
  · rw [Function.update_of_ne fun e => h1 (Proc.devRef_injective _ e)]
    by_cases h0 : r = r₀
    · subst h0; rw [Function.update_self]
    · rw [Function.update_of_ne fun e => h0 (Proc.devRef_injective _ e)]
      exact Pipeline.afterRegion_keeps dat V hinj hA r fun w e => h w (e ▸ h0) (e ▸ h1)

/-- The same for a single output window. -/
theorem afterRegion_update {Λ₀ : Idealize.SL.Sem.Labels} {cfg : Cfg sig Λ₀} {c : Dev nD} (dat : Dat τ (Elt F) Unit ℕ (UR sig nD τ) ℕ cfg c)
    (V : Valuation τ sig (Elt F)) (hinj : Function.Injective (Pipeline.arrRef cfg.spec)) (hA : ∀ w, dat.A w = V (Proc.devRef .tc (Pipeline.arrRef cfg.spec w)))
    (r₀ : Ref sig .tc) (h : ∀ w, Pipeline.arrRef cfg.spec w ≠ r₀ → (cfg.win w).isOut = false) :
    ∀ b ∈ ucRefs τ sig, afterRegion dat V b = Function.update V (Proc.devRef .tc r₀) (afterRegion dat V (Proc.devRef .tc r₀)) b := by
  intro b hb
  rw [afterRegion_updates dat V hinj hA r₀ r₀ (fun w h' _ => h w h') b hb, Function.update_idem]

/-! ## The buffers between the items -/

variable (m : (ℓ : Loc nD τ sig) → Buf (Elt F) ℓ)

/-- The buffers as call 0 finds them. -/
def B1 (c : Dev nD) : Valuation τ sig (Elt F) := V1 m c
/-- What call 0 leaves in a buffer. -/
def O2 (r : Ref sig .tc) (c : Dev nD) : Buf (Elt F) ((c : Thread nD τ).loc r) := afterRegion (R0.dat (B1 m) c) (B1 m c) (Proc.devRef .tc r)
/-- The buffers as call 0 leaves them. -/
def B2 (c : Dev nD) : Valuation τ sig (Elt F) := Function.update (B1 m c) main_v2 (O2 m main_v2 c)

/-- The buffers as call 1 finds them. -/
def B3 (c : Dev nD) : Valuation τ sig (Elt F) := StableHlo.after hostOps1 (B2 m c)
/-- What call 1 leaves in a buffer. -/
def O4 (r : Ref sig .tc) (c : Dev nD) : Buf (Elt F) ((c : Thread nD τ).loc r) := afterRegion (R1.dat (B3 m) c) (B3 m c) (Proc.devRef .tc r)
/-- The buffers as call 1 leaves them. -/
def B4 (c : Dev nD) : Valuation τ sig (Elt F) := Function.update (Function.update (B3 m c) main_v4_0 (O4 m main_v4_0 c)) main_v4_1 (O4 m main_v4_1 c)

/-- The buffers as call 2 finds them. -/
def B9 (c : Dev nD) : Valuation τ sig (Elt F) := StableHlo.after hostOps2_4 (StableHlo.after hostOps2_3 (StableHlo.after hostOps2_2 (StableHlo.after hostOps2_1 (StableHlo.after hostOps2 (B4 m c)))))
/-- What call 2 leaves in a buffer. -/
def O10 (r : Ref sig .tc) (c : Dev nD) : Buf (Elt F) ((c : Thread nD τ).loc r) := afterRegion (R2.dat (B9 m) c) (B9 m c) (Proc.devRef .tc r)
/-- The buffers as call 2 leaves them. -/
def B10 (c : Dev nD) : Valuation τ sig (Elt F) := Function.update (B9 m c) main_v26 (O10 m main_v26 c)

/-- The buffers as call 3 finds them. -/
def B15 (c : Dev nD) : Valuation τ sig (Elt F) := StableHlo.after hostOps3_4 (StableHlo.after hostOps3_3 (StableHlo.after hostOps3_2 (StableHlo.after hostOps3_1 (StableHlo.after hostOps3 (B10 m c)))))
/-- What call 3 leaves in a buffer. -/
def O16 (r : Ref sig .tc) (c : Dev nD) : Buf (Elt F) ((c : Thread nD τ).loc r) := afterRegion (R3.dat (B15 m) c) (B15 m c) (Proc.devRef .tc r)
/-- The buffers as call 3 leaves them. -/
def B16 (c : Dev nD) : Valuation τ sig (Elt F) := Function.update (B15 m c) main_v48 (O16 m main_v48 c)

/-- The buffers as call 4 finds them. -/
def B21 (c : Dev nD) : Valuation τ sig (Elt F) := StableHlo.after hostOps4_4 (StableHlo.after hostOps4_3 (StableHlo.after hostOps4_2 (StableHlo.after hostOps4_1 (StableHlo.after hostOps4 (B16 m c)))))
/-- What call 4 leaves in a buffer. -/
def O22 (r : Ref sig .tc) (c : Dev nD) : Buf (Elt F) ((c : Thread nD τ).loc r) := afterRegion (R4.dat (B21 m) c) (B21 m c) (Proc.devRef .tc r)
/-- The buffers as call 4 leaves them. -/
def B22 (c : Dev nD) : Valuation τ sig (Elt F) := Function.update (Function.update (B21 m c) main_v72_0 (O22 m main_v72_0 c)) main_v72_1 (O22 m main_v72_1 c)

/-- What the calls leave. -/
def outs : Outs (F := F) := fun J r c => match J with
  | 2 => O2 m r c
  | 4 => O4 m r c
  | 10 => O10 m r c
  | 16 => O16 m r c
  | 22 => O22 m r c
  | _ => m ((c : Thread nD τ).loc r)

theorem V2_eq (c : Dev nD) : V2 m (outs m) c = B2 m c := rfl
theorem V3_eq (c : Dev nD) : V3 m (outs m) c = B3 m c := rfl
theorem V4_eq (c : Dev nD) : V4 m (outs m) c = B4 m c := rfl
theorem V9_eq (c : Dev nD) : V9 m (outs m) c = B9 m c := rfl
theorem V10_eq (c : Dev nD) : V10 m (outs m) c = B10 m c := rfl
theorem V15_eq (c : Dev nD) : V15 m (outs m) c = B15 m c := rfl
theorem V16_eq (c : Dev nD) : V16 m (outs m) c = B16 m c := rfl
theorem V21_eq (c : Dev nD) : V21 m (outs m) c = B21 m c := rfl
theorem V22_eq (c : Dev nD) : V22 m (outs m) c = B22 m c := rfl

/-- What call 0 leaves in its result. -/
theorem O2_main_v2 (c : Dev nD) : O2 m main_v2 c = R0.res (B1 m) c := by
  unfold O2
  rw [← R0.arr]
  exact Pipeline.afterRegion_arr (R0.dat (B1 m) c) (B1 m c) winFacts0.arr_inj 1

/-- What call 1 leaves in its result. -/
theorem O4_main_v4_0 (c : Dev nD) : O4 m main_v4_0 c = R1.resL (B3 m) c := by
  unfold O4
  rw [← R1.arrL]
  exact Pipeline.afterRegion_arr (R1.dat (B3 m) c) (B3 m c) winFacts1.arr_inj 5

/-- What call 1 leaves in its result. -/
theorem O4_main_v4_1 (c : Dev nD) : O4 m main_v4_1 c = R1.res (B3 m) c := by
  unfold O4
  rw [← R1.arr]
  exact Pipeline.afterRegion_arr (R1.dat (B3 m) c) (B3 m c) winFacts1.arr_inj 6

/-- What call 2 leaves in its result. -/
theorem O10_main_v26 (c : Dev nD) : O10 m main_v26 c = R2.res (B9 m) c := by
  unfold O10
  rw [← R2.arr]
  exact Pipeline.afterRegion_arr (R2.dat (B9 m) c) (B9 m c) winFacts2.arr_inj 3

/-- What call 3 leaves in its result. -/
theorem O16_main_v48 (c : Dev nD) : O16 m main_v48 c = R3.res (B15 m) c := by
  unfold O16
  rw [← R3.arr]
  exact Pipeline.afterRegion_arr (R3.dat (B15 m) c) (B15 m c) winFacts3.arr_inj 3

/-- What call 4 leaves in its result. -/
theorem O22_main_v72_0 (c : Dev nD) : O22 m main_v72_0 c = R4.resMap (B21 m) c := by
  unfold O22
  rw [← R4.arrMap]
  exact Pipeline.afterRegion_arr (R4.dat (B21 m) c) (B21 m c) winFacts4.arr_inj 7

/-- What call 4 leaves in its result. -/
theorem O22_main_v72_1 (c : Dev nD) : O22 m main_v72_1 c = R4.resSeq (B21 m) c := by
  unfold O22
  rw [← R4.arrSeq]
  exact Pipeline.afterRegion_arr (R4.dat (B21 m) c) (B21 m c) winFacts4.arr_inj 8

end Cert.KernelIdeal.Hand
-- ==== Proof.KSegs.lean ====
module

public import proofs.«01_k».proof.Proof.KBufs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf Seg HostSeg RegionSeg ucRefs afterRegion)

variable {F : FTy → Type} [FloatOps F]

local notation "𝕄" => MT nD τ sig Unit (Elt F) ℕ (UR sig nD τ) ℕ

variable (m : (ℓ : Loc nD τ sig) → Buf (Elt F) ℓ)

/-! ## The calls as items of the run -/

/-- The calls' proof data. -/
def pdats : (p : Fin 5) → (c : Dev nD) → Dat τ (Elt F) Unit ℕ (UR sig nD τ) ℕ (cfgs p) c
  | ⟨0, _⟩, c => R0.dat (B1 m) c
  | ⟨1, _⟩, c => R1.dat (B3 m) c
  | ⟨2, _⟩, c => R2.dat (B9 m) c
  | ⟨3, _⟩, c => R3.dat (B15 m) c
  | ⟨4, _⟩, c => R4.dat (B21 m) c

/-- The waits' levels: one index at every counter of a core. -/
abbrev L : GSem nD τ sig → Finset Unit := fun g => if g.1.2 = .tc then {()} else ∅
abbrev lv : GSem nD τ sig → Unit → ℕ := fun _ _ => 0

theorem cut (p : Fin 5) : Pipeline.LevelCut (pcfgs (F := F)) adm () L lv p (fun _ => 0) (fun _ => 0) where
  hι c w s := by show () ∈ (if (Proc.tc : Proc τ) = .tc then ({()} : Finset Unit) else ∅); rw [if_pos rfl]; exact Finset.mem_singleton_self _
  hιb _ _ _ := Nat.le_refl 0
  hD _ _ _ h := absurd h (Nat.lt_irrefl 0)

/-- What rides beside the buffers. -/
abbrev E : Fin 6 → Dev nD → sProp 𝕄 := fun _ c => iprop((∃ Wd, owes (c : Thread nD τ) (0 : CellTallies nD τ sig Unit) Wd) ∗ (∃ r, prngReg c r) ∗ emp)

set_option backward.isDefEq.respectTransparency.types false in
/-- A call as an item of the run, entered at the buffers `W`. -/
def regOf (p : Fin 5) (W : Dev nD → Valuation τ sig (Elt F)) (kit : Pipeline.PLaunchFacts (nD := nD) (τ := τ) (pcfgs (F := F)) p)
    (hK : (pcfgs (F := F) p).pre.K = 0)
    (hbody : ∀ c, Pipeline.BodyObligationLoose (pdats m p c) (defs₀ (F := F)) Variants.none () Set.univ)
    (howed : ∀ c t, (pdats m p c).owed t = 0) (hrec : ∀ c, (pdats m p c).recorded 0 = Set.univ) (hshare : ∀ c w, (pdats m p c).share w = fullShare)
    (hin : ∀ c, iprop(Pipeline.scopedRest (Ix := Unit) (Name := ℕ) (U := UR sig nD τ) (Lvl := ℕ) (Val := Elt F) (cfgs p).spec c ∗ (∃ r, prngReg c r)) ⊢ (pdats m p c).Φ 0)
    (hout : ∀ c, (pdats m p c).Φ (Fin.last (cfgs p).N) ⊢ iprop(Pipeline.scopedRest (Ix := Unit) (Name := ℕ) (U := UR sig nD τ) (Lvl := ℕ) (Val := Elt F) (cfgs p).spec c ∗ (∃ r, prngReg c r)))
    (hW : ∀ c w, (pdats m p c).arrAt w 0 = W c (Proc.devRef .tc (Pipeline.arrRef (cfgs p).spec w))) :
    RegionSeg (pcfgs (F := F)) adm (pdats m) () defs₀ Variants.none L lv p :=
  RegionSeg.ofHeldIn (pcfgs (F := F)) adm (pdats m) () defs₀ Variants.none L lv p (fun _ => 0) (ucRefs τ sig)
    (fun c => iprop(∃ r, prngReg c r)) (fun c => iprop(∃ r, prngReg c r)) kit hK hbody howed hrec hshare hin hout (fun _ => 0) (cut p) (fun _ => iprop(emp)) W hW

set_option backward.isDefEq.respectTransparency.types false in
theorem regOf_pre {p : Fin 5} {W : Dev nD → Valuation τ sig (Elt F)} {kit hK hbody howed hrec hshare hin hout hW}
    (hS : Pipeline.arrRefs (τ := τ) (pcfgs (F := F) p).spec ⊆ ucRefs τ sig) (c : Dev nD) :
    iprop(StableHlo.held (c : Thread nD τ) (ucRefs τ sig) (W c) ∗ E 0 c) ⊢ (regOf m p W kit hK hbody howed hrec hshare hin hout hW).pre c := by
  unfold regOf
  exact RegionSeg.ofHeldIn_pre (pcs := pcfgs (F := F)) (a := adm) (pdats := pdats m) (p := p) (D := fun _ => 0) (L := L) (lv := lv)
    (X := fun c => iprop(∃ r, prngReg c r)) (Y := fun c => iprop(∃ r, prngReg c r)) (R := fun _ => iprop(emp)) (b := fun _ => 0) (W := W)
    (kit := kit) (hK := hK) (hbody := hbody) (howed := howed) (hrec := hrec) (hshare := hshare) (hin := hin) (hout := hout) (hcut := cut p) (hW := hW) hS c

set_option backward.isDefEq.respectTransparency.types false in
theorem regOf_post {p : Fin 5} {W : Dev nD → Valuation τ sig (Elt F)} {kit hK hbody howed hrec hshare hin hout hW}
    (hS : Pipeline.arrRefs (τ := τ) (pcfgs (F := F) p).spec ⊆ ucRefs τ sig) (c : Dev nD) (B : Valuation τ sig (Elt F))
    (hB : ∀ b ∈ ucRefs τ sig, afterRegion (pdats m p c) (W c) b = B b) :
    (regOf m p W kit hK hbody howed hrec hshare hin hout hW).post c ⊢ iprop(StableHlo.held (c : Thread nD τ) (ucRefs τ sig) B ∗ E 0 c) := by
  rw [← StableHlo.held_congr (c.tc : Thread nD τ) (S := ucRefs τ sig) hB]
  exact RegionSeg.ofHeldIn_post hS c

theorem arrays0 : Pipeline.arrRefs (τ := τ) (pcfgs (F := F) 0).spec ⊆ ucRefs τ sig := Pipeline.arrRefs_sub_ucRefs spec0 winFacts0.arr_unscoped

/-- Call 0 as an item of the run. -/
def reg0 : RegionSeg (pcfgs (F := F)) adm (pdats m) () defs₀ Variants.none L lv 0 :=
  regOf m 0 (B1 m) launch0.toP rfl (fun c => (R0.obligation (B1 m) c).loose) (fun _ _ => rfl) (fun _ => rfl) (fun c w => ite_self fullShare)
    (fun c => R0.hin (B1 m) c) (fun c => R0.hout (B1 m) c) (fun c w => rfl)

theorem pre0 (c : Dev nD) : iprop(StableHlo.held (c : Thread nD τ) (ucRefs τ sig) (B1 m c) ∗ E 0 c) ⊢ (reg0 (F := F) m).pre c := by
  unfold reg0
  exact regOf_pre m arrays0 c

theorem buffers0 (c : Dev nD) : ∀ b ∈ ucRefs τ sig, afterRegion (R0.dat (B1 m) c) (B1 m c) b = B2 m c b :=
  afterRegion_update (R0.dat (B1 m) c) (B1 m c) winFacts0.arr_inj (fun _ => rfl) main_v2 (by decide)

theorem post0 (c : Dev nD) : (reg0 (F := F) m).post c ⊢ iprop(StableHlo.held (c : Thread nD τ) (ucRefs τ sig) (B2 m c) ∗ E 1 c) := by
  unfold reg0
  exact regOf_post m arrays0 c (B2 m c) (buffers0 m c)

theorem arrays1 : Pipeline.arrRefs (τ := τ) (pcfgs (F := F) 1).spec ⊆ ucRefs τ sig := Pipeline.arrRefs_sub_ucRefs spec1 winFacts1.arr_unscoped

/-- Call 1 as an item of the run. -/
def reg1 : RegionSeg (pcfgs (F := F)) adm (pdats m) () defs₀ Variants.none L lv 1 :=
  regOf m 1 (B3 m) launch1.toP rfl (fun c => (R1.obligation (B3 m) c).loose) (fun _ _ => rfl) (fun _ => rfl) (fun c w => ite_self fullShare)
    (fun c => R1.hin (B3 m) c) (fun c => R1.hout (B3 m) c) (fun c w => rfl)

theorem pre1 (c : Dev nD) : iprop(StableHlo.held (c : Thread nD τ) (ucRefs τ sig) (B3 m c) ∗ E 1 c) ⊢ (reg1 (F := F) m).pre c := by
  unfold reg1
  exact regOf_pre m arrays1 c

theorem buffers1 (c : Dev nD) : ∀ b ∈ ucRefs τ sig, afterRegion (R1.dat (B3 m) c) (B3 m c) b = B4 m c b :=
  afterRegion_updates (R1.dat (B3 m) c) (B3 m c) winFacts1.arr_inj (fun _ => rfl) main_v4_0 main_v4_1 (by decide)

theorem post1 (c : Dev nD) : (reg1 (F := F) m).post c ⊢ iprop(StableHlo.held (c : Thread nD τ) (ucRefs τ sig) (B4 m c) ∗ E 2 c) := by
  unfold reg1
  exact regOf_post m arrays1 c (B4 m c) (buffers1 m c)

theorem arrays2 : Pipeline.arrRefs (τ := τ) (pcfgs (F := F) 2).spec ⊆ ucRefs τ sig := Pipeline.arrRefs_sub_ucRefs spec2 winFacts2.arr_unscoped

/-- Call 2 as an item of the run. -/
def reg2 : RegionSeg (pcfgs (F := F)) adm (pdats m) () defs₀ Variants.none L lv 2 :=
  regOf m 2 (B9 m) launch2.toP rfl (fun c => (R2.obligation (B9 m) c).loose) (fun _ _ => rfl) (fun _ => rfl) (fun c w => ite_self fullShare)
    (fun c => R2.hin (B9 m) c) (fun c => R2.hout (B9 m) c) (fun c w => rfl)

theorem pre2 (c : Dev nD) : iprop(StableHlo.held (c : Thread nD τ) (ucRefs τ sig) (B9 m c) ∗ E 2 c) ⊢ (reg2 (F := F) m).pre c := by
  unfold reg2
  exact regOf_pre m arrays2 c

theorem buffers2 (c : Dev nD) : ∀ b ∈ ucRefs τ sig, afterRegion (R2.dat (B9 m) c) (B9 m c) b = B10 m c b :=
  afterRegion_update (R2.dat (B9 m) c) (B9 m c) winFacts2.arr_inj (fun _ => rfl) main_v26 (by decide)

theorem post2 (c : Dev nD) : (reg2 (F := F) m).post c ⊢ iprop(StableHlo.held (c : Thread nD τ) (ucRefs τ sig) (B10 m c) ∗ E 3 c) := by
  unfold reg2
  exact regOf_post m arrays2 c (B10 m c) (buffers2 m c)

theorem arrays3 : Pipeline.arrRefs (τ := τ) (pcfgs (F := F) 3).spec ⊆ ucRefs τ sig := Pipeline.arrRefs_sub_ucRefs spec3 winFacts3.arr_unscoped

/-- Call 3 as an item of the run. -/
def reg3 : RegionSeg (pcfgs (F := F)) adm (pdats m) () defs₀ Variants.none L lv 3 :=
  regOf m 3 (B15 m) launch3.toP rfl (fun c => (R3.obligation (B15 m) c).loose) (fun _ _ => rfl) (fun _ => rfl) (fun c w => ite_self fullShare)
    (fun c => R3.hin (B15 m) c) (fun c => R3.hout (B15 m) c) (fun c w => rfl)

theorem pre3 (c : Dev nD) : iprop(StableHlo.held (c : Thread nD τ) (ucRefs τ sig) (B15 m c) ∗ E 3 c) ⊢ (reg3 (F := F) m).pre c := by
  unfold reg3
  exact regOf_pre m arrays3 c

theorem buffers3 (c : Dev nD) : ∀ b ∈ ucRefs τ sig, afterRegion (R3.dat (B15 m) c) (B15 m c) b = B16 m c b :=
  afterRegion_update (R3.dat (B15 m) c) (B15 m c) winFacts3.arr_inj (fun _ => rfl) main_v48 (by decide)

theorem post3 (c : Dev nD) : (reg3 (F := F) m).post c ⊢ iprop(StableHlo.held (c : Thread nD τ) (ucRefs τ sig) (B16 m c) ∗ E 4 c) := by
  unfold reg3
  exact regOf_post m arrays3 c (B16 m c) (buffers3 m c)

theorem arrays4 : Pipeline.arrRefs (τ := τ) (pcfgs (F := F) 4).spec ⊆ ucRefs τ sig := Pipeline.arrRefs_sub_ucRefs spec4 winFacts4.arr_unscoped

/-- Call 4 as an item of the run. -/
def reg4 : RegionSeg (pcfgs (F := F)) adm (pdats m) () defs₀ Variants.none L lv 4 :=
  regOf m 4 (B21 m) launch4.toP rfl (fun c => (R4.obligation (B21 m) c).loose) (fun _ _ => rfl) (fun _ => rfl) (fun c w => ite_self fullShare)
    (fun c => R4.hin (B21 m) c) (fun c => R4.hout (B21 m) c) (fun c w => rfl)

theorem pre4 (c : Dev nD) : iprop(StableHlo.held (c : Thread nD τ) (ucRefs τ sig) (B21 m c) ∗ E 4 c) ⊢ (reg4 (F := F) m).pre c := by
  unfold reg4
  exact regOf_pre m arrays4 c

theorem buffers4 (c : Dev nD) : ∀ b ∈ ucRefs τ sig, afterRegion (R4.dat (B21 m) c) (B21 m c) b = B22 m c b :=
  afterRegion_updates (R4.dat (B21 m) c) (B21 m c) winFacts4.arr_inj (fun _ => rfl) main_v72_0 main_v72_1 (by decide)

theorem post4 (c : Dev nD) : (reg4 (F := F) m).post c ⊢ iprop(StableHlo.held (c : Thread nD τ) (ucRefs τ sig) (B22 m c) ∗ E 5 c) := by
  unfold reg4
  exact regOf_post m arrays4 c (B22 m c) (buffers4 m c)

end Cert.KernelIdeal.Hand
-- ==== Proof.KLaunch.lean ====
module

public import proofs.«01_k».proof.Proof.KSegs

@[expose] public section

set_option maxRecDepth 16384

noncomputable section

/-!
The program's run from any memory: it ends, every counter is back at zero, and every unscoped buffer holds what the last valuation says.
-/

namespace Cert.KernelIdeal.Hand

open Cert.KernelIdeal Cert.KernelIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf Seg HostSeg RegionSeg ucRefs afterRegion)

variable {F : FTy → Type} [FloatOps F]

local notation "𝕄" => MT nD τ sig Unit (Elt F) ℕ (UR sig nD τ) ℕ

variable (m : (ℓ : Loc nD τ sig) → Buf (Elt F) ℓ)

/-- The buffers at the end of the run. -/
def last (c : Dev nD) : Valuation τ sig (Elt F) := V23 m (outs m) c

theorem enter0 (c : Dev nD) : iprop(StableHlo.held (c : Thread nD τ) (ucRefs τ sig) (V1 m c) ∗ E 0 c) ⊢ (reg0 (F := F) m).pre c := pre0 m c
theorem leave0 (c : Dev nD) : (reg0 (F := F) m).post c ⊢ iprop(StableHlo.held (c : Thread nD τ) (ucRefs τ sig) (V2 m (outs m) c) ∗ E 1 c) := post0 m c
theorem enter1 (c : Dev nD) : iprop(StableHlo.held (c : Thread nD τ) (ucRefs τ sig) (V3 m (outs m) c) ∗ E 1 c) ⊢ (reg1 (F := F) m).pre c := pre1 m c
theorem leave1 (c : Dev nD) : (reg1 (F := F) m).post c ⊢ iprop(StableHlo.held (c : Thread nD τ) (ucRefs τ sig) (V4 m (outs m) c) ∗ E 2 c) := post1 m c
theorem enter2 (c : Dev nD) : iprop(StableHlo.held (c : Thread nD τ) (ucRefs τ sig) (V9 m (outs m) c) ∗ E 2 c) ⊢ (reg2 (F := F) m).pre c := pre2 m c
theorem leave2 (c : Dev nD) : (reg2 (F := F) m).post c ⊢ iprop(StableHlo.held (c : Thread nD τ) (ucRefs τ sig) (V10 m (outs m) c) ∗ E 3 c) := post2 m c
theorem enter3 (c : Dev nD) : iprop(StableHlo.held (c : Thread nD τ) (ucRefs τ sig) (V15 m (outs m) c) ∗ E 3 c) ⊢ (reg3 (F := F) m).pre c := pre3 m c
theorem leave3 (c : Dev nD) : (reg3 (F := F) m).post c ⊢ iprop(StableHlo.held (c : Thread nD τ) (ucRefs τ sig) (V16 m (outs m) c) ∗ E 4 c) := post3 m c
theorem enter4 (c : Dev nD) : iprop(StableHlo.held (c : Thread nD τ) (ucRefs τ sig) (V21 m (outs m) c) ∗ E 4 c) ⊢ (reg4 (F := F) m).pre c := pre4 m c
theorem leave4 (c : Dev nD) : (reg4 (F := F) m).post c ⊢ iprop(StableHlo.held (c : Thread nD τ) (ucRefs τ sig) (V22 m (outs m) c) ∗ E 5 c) := post4 m c

/-- The program's items. -/
abbrev items (c : Dev nD) : List (Seg (pcfgs (F := F)) adm (pdats m) () (defs₀ (F := F)) Variants.none L lv) :=
  segs m (outs m) Variants.none L lv E () (pdats m) (reg0 m) (reg1 m) (reg2 m) (reg3 m) (reg4 m) c

/-- The program is its items, one after another. -/
theorem main_items (c : Dev nD) : main (F := F) c = Pipeline.chain ((items m c).map Seg.prog) := by
  rw [main_chain c]
  rfl

set_option backward.isDefEq.respectTransparency.types false in
/-- From any memory with the counters at zero every weakly fair execution ends, with every unscoped buffer at the last valuation and every counter at zero. -/
theorem run_last (ρ : Dev nD → PrngReg) :
    θ_run (defs (F := F)) (onTc (τ := τ) (main (F := F))) ⟨m, fun _ => 0, ρ⟩ fun r =>
      (∀ (c : Dev nD), ∀ b ∈ ucRefs τ sig, r.2.mem ((c.tc : Thread nD τ).1, b) = last m c b) ∧ r.2.sem = fun _ => 0 := by
  refine Pipeline.θ_run_regions_kit_dev_sems (pcfgs (F := F)) adm (pdats m) () cellOf_inj emb₁ defs₀ Variants.none L lv m ρ main (items m)
    (fun c Q => by
      rw [main_items m c, Seg.run_eq_chain])
    (fun c => by simp only [items, segs, Seg.pipes_host, Seg.pipes_region, Seg.pipes_nil]; decide)
    (O₀ := 0) (hL := fun g h => if_neg h)
    (G := fun _ => iprop(emp)) (u₀ := initOf (Pipeline.cells cfgs cellOf_inj) (Pipeline.launchToks cfgs cellOf_inj))
    (hu₀ := ?_)
    (T₀ := fun c => iprop(StableHlo.held (c : Thread nD τ) (ucRefs τ sig) (V0 m c) ∗ E 0 c))
    (Tₙ := fun c => StableHlo.held (c : Thread nD τ) (ucRefs τ sig) (last m c))
    (hch := fun c => ⟨.rfl, enter0 m c, leave0 m c, enter1 m c, leave1 m c, .rfl, .rfl, .rfl, .rfl, enter2 m c, leave2 m c, .rfl, .rfl, .rfl, .rfl,
      enter3 m c, leave3 m c, .rfl, .rfl, .rfl, .rfl, enter4 m c, leave4 m c, sep_mono .rfl (by iintro ⟨H, -⟩; iexact H)⟩)
    (hinit := ?_) (QY := fun c s => ∀ b ∈ ucRefs τ sig, s.mem ((c.tc : Thread nD τ).1, b) = last m c b)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  · refine Pipeline.initEach L lv fun c => ?_
    rw [show unscopedBufs c (fun b => m ((c.tc : Thread nD τ).loc b)) = StableHlo.held (c.tc : Thread nD τ) (ucRefs τ sig) (V0 m c)
        from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (ucRefs τ sig) (fun b => ((c.tc : Thread nD τ).1, b)) (last m c) s') $$ [Hh HSI]
    · isplitl [Hh] <;> iassumption
    imodintro
    iexact Hr

/-- The same, read at one buffer. -/
theorem ends_at (s : MemSt nD τ sig (Elt F)) (h : ∀ (c : Dev nD), ∀ b ∈ ucRefs τ sig, s.mem ((c.tc : Thread nD τ).1, b) = last m c b)
    (c : Dev nD) (r : Ref sig .tc) (hr : r.isScoped = false) : s.mem ((c.tc : Thread nD τ).loc r) = last m c (Proc.devRef .tc r) :=
  h c _ (Pipeline.devRef_mem_ucRefs hr)

end Cert.KernelIdeal.Hand
-- ==== Proof.Frames.lean ====
module

public import proofs.«01_k».proof.Proof.KLaunch
public import proofs.«01_k».proof.Defs
public import proofs.«01_k».proof.Proof.Gen.Kernel
public import proofs.«01_k».proof.Proof.Gen.ReferenceIdeal
public import proofs.«01_k».proof.Proof.Gen.ReferenceIdeal.Run
public import Idealize.ShloMosaic.Lib.Quiescent
public import Idealize.ShloMosaic.Lib.Tactic

@[expose] public section

set_option maxRecDepth 16384

noncomputable section

/-!
The frames of the kernel: of the ideal text at any float instance, and from it of the printed text, which is the same text.
-/

namespace Cert.KernelIdeal.Hand

open Cert.KernelIdeal Cert.KernelIdeal.Gen
open Idealize.ShloMosaic Idealize.ShloMosaic.TcCoe
open Idealize.SL.Sem

variable {F : FTy → Type} [FloatOps F]

/-- The arguments end as they were. -/
theorem last_args (m : (ℓ : Loc nD τ sig) → Buf (Elt F) ℓ) (c : Dev nD) (s : MemSt nD τ sig (Elt F))
    (h : ∀ (c : Dev nD), ∀ b ∈ Pipeline.ucRefs τ sig, s.mem ((c.tc : Thread nD τ).1, b) = last m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14) :=
  ⟨(ends_at m s h c main_arg0 rfl).trans (V23_main_arg0 m (outs m) c),
    (ends_at m s h c main_arg1 rfl).trans (V23_main_arg1 m (outs m) c),
    (ends_at m s h c main_arg2 rfl).trans (V23_main_arg2 m (outs m) c),
    (ends_at m s h c main_arg3 rfl).trans (V23_main_arg3 m (outs m) c),
    (ends_at m s h c main_arg4 rfl).trans (V23_main_arg4 m (outs m) c),
    (ends_at m s h c main_arg5 rfl).trans (V23_main_arg5 m (outs m) c),
    (ends_at m s h c main_arg6 rfl).trans (V23_main_arg6 m (outs m) c),
    (ends_at m s h c main_arg7 rfl).trans (V23_main_arg7 m (outs m) c),
    (ends_at m s h c main_arg8 rfl).trans (V23_main_arg8 m (outs m) c),
    (ends_at m s h c main_arg9 rfl).trans (V23_main_arg9 m (outs m) c),
    (ends_at m s h c main_arg10 rfl).trans (V23_main_arg10 m (outs m) c),
    (ends_at m s h c main_arg11 rfl).trans (V23_main_arg11 m (outs m) c),
    (ends_at m s h c main_arg12 rfl).trans (V23_main_arg12 m (outs m) c),
    (ends_at m s h c main_arg13 rfl).trans (V23_main_arg13 m (outs m) c),
    (ends_at m s h c main_arg14 rfl).trans (V23_main_arg14 m (outs m) c)⟩

variable (F) in
/-- The program runs, ends with its arguments unchanged and every counter at zero: the frame, at any float instance. -/
def Quiet : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0)

theorem quiet : Quiet F := fun m g _ =>
  (θ_run (defs (F := F)) _ _).mono (fun r h => ⟨fun c => last_args m c r.2 h.1, h.2⟩) (run_last m g)

end Cert.KernelIdeal.Hand

namespace Cert.Proof

open Idealize.ShloMosaic Idealize.SL.Sem

attribute [local instance] Cert.Kernel.Gen.facts Cert.KernelIdeal.Gen.facts Cert.ReferenceIdeal.Gen.facts

/-- The printed text's frame is the ideal text's, read at the float words. -/
theorem kernel_frame_eq : Cert.quiescent_Kernel = Cert.KernelIdeal.Hand.Quiet Bits := by sl_kernel_rfl

theorem kernel_frame : Cert.quiescent_Kernel := kernel_frame_eq.mpr Cert.KernelIdeal.Hand.quiet

theorem ideal_frame : Cert.quiescent_KernelIdeal := Cert.KernelIdeal.Hand.quiet (F := Ideal)

/-- The reference declares no semaphore, so its counters are at zero in every state. -/
theorem reference_frame : Cert.quiescent_ReferenceIdeal := fun m g _ =>
  (θ_run Cert.ReferenceIdeal.defs _ _).mono (fun r h => ⟨fun c => (h c).2.2, sem_eq_zero_of_no_sems rfl r.2⟩) (Cert.ReferenceIdeal.Value.run (F := Ideal) m g)

end Cert.Proof
-- ==== Proof.ASum.lean ====
module

public import proofs.«01_k».proof.Proof.KSpec
public import Idealize.ShloMosaic.Lib.Pointwise

@[expose] public section

set_option maxRecDepth 16384

noncomputable section

/-!
# The column sums, over the extended reals

Call 0 adds the rows of a matrix with ones added on its diagonal, sixty-four rows apart at a time into eight partial sums, and then
adds the eight.  Over the extended reals, where addition is associative and commutative, that is the sum of the column.
-/

namespace Cert.KernelIdeal.Hand

open Cert.KernelIdeal Cert.KernelIdeal.Gen
open Idealize.ShloMosaic Idealize.ShloMosaic.TcCoe Idealize.ShloMosaic.Tactic

/-! ## The diagonal -/

/-- One on the diagonal, zero off it. -/
def eye (p q : ℕ) : EReal := if p = q then 1 else 0

theorem select_eq (a b : BitVec 32) : Scalar.select (IntOp.cmpi .eq a b) (1 : EReal) 0 = if a = b then 1 else 0 := by
  by_cases h : a = b
  · subst h; simp [Scalar.select, IntOp.cmpi]
  · have hb : (a == b) = false := by simpa using h
    simp [Scalar.select, IntOp.cmpi, h, hb]

/-- Row `r` of row block `t`, as the machine word the kernel computes it in, met with column `q`. -/
theorem select_block (r t q : ℕ) (hr : r < 512) (ht : t < 8) (hq : q < 4096) :
    Scalar.select (IntOp.cmpi .eq (IntOp.addi (BitVec.ofNat 32 r) (Scalar.muli (BitVec.ofNat 32 t) 512#32)) (BitVec.ofNat 32 q)) (1 : EReal) 0
      = eye (512 * t + r) q := by
  rw [select_eq]
  unfold eye
  refine if_congr ?_ rfl rfl
  rw [← BitVec.toNat_inj]
  simp only [IntOp.addi, Scalar.muli, IntOp.muli, BitVec.toNat_add, BitVec.toNat_mul, BitVec.toNat_ofNat]
  omega

/-- The same, with the row block's eight-row group `k` added last. -/
theorem select_group (r t q : ℕ) (k : BitVec 32) (hk : k.toNat < 512) (hr : r < 8) (ht : t < 8) (hq : q < 4096) :
    Scalar.select (IntOp.cmpi .eq (IntOp.addi (IntOp.addi (BitVec.ofNat 32 r) (Scalar.muli (BitVec.ofNat 32 t) 512#32)) k) (BitVec.ofNat 32 q)) (1 : EReal) 0
      = eye (512 * t + (k.toNat + r)) q := by
  rw [select_eq]
  unfold eye
  refine if_congr ?_ rfl rfl
  rw [← BitVec.toNat_inj]
  simp only [IntOp.addi, Scalar.muli, IntOp.muli, BitVec.toNat_add, BitVec.toNat_mul, BitVec.toNat_ofNat]
  omega

/-! ## A block's contribution -/

/-- A block's entry at a row number, zero past its last row. -/
def rowAt (x : FVec Ideal S512x4096 .f32) (q : Fin 4096) (p : ℕ) : EReal := if h : p < 512 then x (ix2 ⟨p, h⟩ q) else 0

theorem rowAt_eq (x : FVec Ideal S512x4096 .f32) (q : Fin 4096) (p : ℕ) (h : p < 512) : x (ix2 ⟨p, h⟩ q) = rowAt x q p := by
  unfold rowAt; rw [dif_pos h]

/-- What row `p` of block `t` adds to the column's sum. -/
def term (t : ℕ) (x : FVec Ideal S512x4096 .f32) (q : Fin 4096) (p : ℕ) : EReal := rowAt x q p + eye (512 * t + p) q.val

/-- The groups added one after another. -/
def added (f : ℕ → EReal) (a : EReal) : ℕ → EReal
  | 0 => a
  | n + 1 => added f a n + f n

theorem added_eq (f : ℕ → EReal) (a : EReal) (n : ℕ) : added f a n = a + ∑ i ∈ Finset.range n, f i := by
  induction n with
  | zero => simp [added]
  | succ n ih => rw [added, ih, Finset.sum_range_succ, add_assoc]

theorem pt8_zero (t : Fin 8) : (pt8 t 0).val = t.val := rfl

set_option maxHeartbeats 4000000 in
/-- All sixty-four groups of a block. -/
theorem block_added (t r : Fin 8) (x : FVec Ideal S512x4096 .f32) (a : FVec Ideal S8x4096 .f32) (q : Fin 4096) :
    k0_pay2 (F := Ideal) (k0_pay5 x) (part0 (pt8 t) x a) (diag0 (pt8 t)) (ix2 r q)
      = added (fun i => term t.val x q (8 * i + r.val)) (a (ix2 r q)) 64 := by
  have hg : ∀ (k : BitVec 32), k.toNat < 512 → Scalar.select (IntOp.cmpi .eq (IntOp.addi (IntOp.addi (BitVec.ofNat 32 r.val)
      (Scalar.muli (BitVec.ofNat 32 t.val) 512#32)) k) (BitVec.ofNat 32 q.val)) (1 : EReal) 0 = eye (512 * t.val + (k.toNat + r.val)) q.val :=
    fun k hk => select_group r.val t.val q.val k hk r.isLt t.isLt q.isLt
  pointwise [k0_pay2, k0_pay1, part0, diag0, k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26, k0_pay27, k0_pay28, k0_pay29, k0_pay30,
    k0_pay31, k0_pay32]
  simp only [rowAt_eq, pt8_zero, hg, BitVec.reduceToNat, Nat.reduceLT]
  simp only [added, term, Nat.reduceMul, zero_add]

/-! ## All blocks -/

/-- What row `p` of the matrix adds to the column's sum. -/
def col (A : FVec Ideal S4096x4096 .f32) (q : Fin 4096) (p : ℕ) : EReal := (if h : p < 4096 then A (ix2 ⟨p, h⟩ q) else 0) + eye p q.val

theorem term_eq (A : FVec Ideal S4096x4096 .f32) (q : Fin 4096) (t : Fin 8) (p : ℕ) (hp : p < 512) :
    term t.val (rowBlk t A) q p = col A q (512 * t.val + p) := by
  have ht := t.isLt
  unfold term col rowAt
  rw [dif_pos hp, dif_pos (by omega)]
  rfl

/-- A partial sum after `t` blocks. -/
theorem sumAt_eq (A : FVec Ideal S4096x4096 .f32) (r : Fin 8) (q : Fin 4096) : ∀ (t : ℕ) (h : t ≤ 8),
    sumAt (F := Ideal) A t h (ix2 r q) = ∑ s ∈ Finset.range t, ∑ i ∈ Finset.range 64, col A q (512 * s + (8 * i + r.val))
  | 0, _ => by
    rw [Finset.sum_range_zero]
    unfold sumAt
    pointwise [k0_pay4]
  | t + 1, h => by
    rw [Finset.sum_range_succ, ← sumAt_eq A r q t (Nat.le_of_succ_le h)]
    unfold sumAt
    rw [block_added, added_eq]
    congr 1
    · cases t <;> rfl
    · refine Finset.sum_congr rfl fun i hi => ?_
      have hi' := Finset.mem_range.mp hi
      have hr := r.isLt
      exact term_eq A q ⟨t, h⟩ _ (by omega)

/-- A sum cut into stretches of one length. -/
theorem sum_stretches {β : Type} [AddCommMonoid β] (f : ℕ → β) (b : ℕ) : ∀ a : ℕ,
    ∑ p ∈ Finset.range (a * b), f p = ∑ s ∈ Finset.range a, ∑ j ∈ Finset.range b, f (b * s + j)
  | 0 => by simp
  | a + 1 => by
    rw [Nat.succ_mul, Finset.sum_range_add, sum_stretches f b a, Finset.sum_range_succ, Nat.mul_comm a b]

/-- The eight partial sums make up the column. -/
theorem partial_sums (A : FVec Ideal S4096x4096 .f32) (q : Fin 4096) :
    ∑ r : Fin 8, sumAt (F := Ideal) A 8 le_rfl (ix2 r q) = ∑ p ∈ Finset.range 4096, col A q p := by
  have e : ∀ r : Fin 8, sumAt (F := Ideal) A 8 le_rfl (ix2 r q)
      = (fun n : ℕ => ∑ s ∈ Finset.range 8, ∑ i ∈ Finset.range 64, col A q (512 * s + (8 * i + n))) r.val := fun r => sumAt_eq A r q 8 le_rfl
  refine (Finset.sum_congr rfl fun r _ => e r).trans
    ((Finset.sum_range fun n : ℕ => ∑ s ∈ Finset.range 8, ∑ i ∈ Finset.range 64, col A q (512 * s + (8 * i + n))).symm.trans ?_)
  rw [Finset.sum_comm]
  refine Eq.trans ?_ (sum_stretches (col A q) 512 8).symm
  refine Finset.sum_congr rfl fun s _ => ?_
  rw [Finset.sum_comm]
  exact (sum_stretches (fun j => col A q (512 * s + j)) 8 64).symm

theorem pay2_at (v4 : FVec Ideal S512x4096 .f32) (v577 : FVec Ideal S8x4096 .f32) (v580 : IVec S8x4096 1) (r : Fin 8) (q : Fin 4096) :
    k0_pay2 (F := Ideal) v4 v577 v580 (ix2 r q) = k0_pay1 (F := Ideal) v4 v577 v580 (ix2 r q) := by
  pointwise [k0_pay2]

/-- The scale of a column. -/
theorem outScale_at (A : FVec Ideal S4096x4096 .f32) (q : Fin 4096) :
    outScale (F := Ideal) A (ix2 0 q)
      = Ideal.pow (∑ k : Fin 4096, (A (ix2 k q) + eye k.val q.val) + Ideal.ofBits .f32 0x3727C5AC#32) (Ideal.ofBits .f32 0xBF000000#32) := by
  have e : ∑ k : Fin 4096, (A (ix2 k q) + eye k.val q.val) = ∑ p ∈ Finset.range 4096, col A q p := by
    rw [Finset.sum_range]
    refine Finset.sum_congr rfl fun k _ => ?_
    unfold col
    rw [dif_pos k.isLt]
  have h : ∀ r : Fin 8, k0_pay1 (F := Ideal) (k0_pay5 (rowBlk 7 A)) (part0 (pt8 7) (rowBlk 7 A) (sumAt A 7 (by decide))) (diag0 (pt8 7)) (ix2 r q)
      = sumAt (F := Ideal) A 8 le_rfl (ix2 r q) := fun r => (pay2_at _ _ _ r q).symm
  rw [e, ← partial_sums, Fin.sum_univ_eight]
  pointwise [outScale, k0_pay3]
  simp only [h]
  refine congrArg (fun z => Ideal.pow (z + _) _) ?_
  abel

end Cert.KernelIdeal.Hand
-- ==== Proof.KHost.lean ====
module

public import proofs.«01_k».proof.Proof.KBufs
public import Idealize.ShloMosaic.Lib.StableHlo.RunRead

@[expose] public section

set_option maxRecDepth 16384

noncomputable section

/-!
# The host's operations between the calls, as functions of what they find

Between two layers the host normalises each column of a layer's product by its mean and variance and takes the positive part: `bnRelu`.
Everything else that the host does is a change of shape.  The buffers that the calls read are then named in terms of the arguments
and of what the calls before left.
-/

namespace Cert.KernelIdeal.Hand

open Cert.KernelIdeal Cert.KernelIdeal.Gen
open Idealize.ShloMosaic Idealize.ShloMosaic.TcCoe Idealize.ShloMosaic.Tactic

variable {F : FTy → Type} [FloatOps F]

/-! ## The normalisation between two layers -/

/-- The column means, as one row. -/
def colMean (h : FVec F S1x4096x32 .f32) : FVec F S1x1x32 .f32 :=
  Host.divf (broadcastInDim S1x1x32 ![2] bcast_S32_S1x1x32_2 (Host.reduceAdd h (constant S_ .f32 0x00000000#32) reducesTo_S1x4096x32_S32_d0_1 h_S_))
    (broadcastInDim S1x1x32 ![] bcast_S_S1x1x32 (constant S_ .f32 0x45800000#32))

/-- A row, over all rows. -/
def overRows (r : FVec F S1x1x32 .f32) : FVec F S1x4096x32 .f32 := broadcastInDim S1x4096x32 ![0, 1, 2] bcast_S1x1x32_S1x4096x32_0_1_2 r

/-- The entries less their column's mean. -/
def centred (h : FVec F S1x4096x32 .f32) : FVec F S1x4096x32 .f32 := subf h (overRows (colMean h))

/-- The number of rows less no degree of freedom. -/
def rowCount : FVec F S_ .f32 := subf (constant S_ .f32 0x45800000#32) (sitofp .f32 (constantI S_ 32 0#32))

/-- The column variances, as one row. -/
def colVar (h : FVec F S1x4096x32 .f32) : FVec F S1x1x32 .f32 :=
  select (broadcastInDim S1x1x32 ![] bcast_S_S1x1x32 (cmpf .ogt (rowCount (F := F)) (constant S_ .f32 0x00000000#32)))
    (Host.divf (broadcastInDim S1x1x32 ![2] bcast_S32_S1x1x32_2 (Host.reduceAdd (mulf (centred h) (centred h)) (constant S_ .f32 0x00000000#32) reducesTo_S1x4096x32_S32_d0_1 h_S_))
      (broadcastInDim S1x1x32 ![] bcast_S_S1x1x32 (rowCount (F := F))))
    (broadcastInDim S1x1x32 ![] bcast_S_S1x1x32 (id (constant S_ .f32 0x7FC00000#32)))

/-- A row of weights. -/
def asRow (g : FVec F S32 .f32) : FVec F S1x1x32 .f32 := broadcastInDim S1x1x32 ![2] bcast_S32_S1x1x32_2 g

/-- The normalised layer. -/
def bnRelu (h : FVec F S1x4096x32 .f32) (g b : FVec F S32 .f32) : FVec F S1x4096x32 .f32 :=
  maximumf
    (addf (Host.divf (mulf (overRows (asRow g)) (centred h))
        (overRows (Host.sqrt (addf (colVar h) (broadcastInDim S1x1x32 ![] bcast_S_S1x1x32 (constant S_ .f32 0x3727C5AC#32))))))
      (overRows (asRow b)))
    (broadcastInDim S1x4096x32 ![] bcast_S_S1x4096x32 (constant S_ .f32 0x00000000#32))

/-- A layer of 4096 rows, as the host's operations take it. -/
def thick (h : FVec F S4096x32 .f32) : FVec F S1x4096x32 .f32 := shapeCast S1x4096x32 h shapeCasts_S4096x32_S1x4096x32

/-- The layer that the next call reads. -/
def layer (h : FVec F S4096x32 .f32) (g b : FVec F S32 .f32) : FVec F S4096x32 .f32 :=
  shapeCast S4096x32 (bnRelu (thick h) g b) shapeCasts_S1x4096x32_S4096x32

/-! ## What the stretches of host operations leave -/

variable (V : Valuation τ sig (Elt F))

theorem ops0_main_v0 : StableHlo.after hostOps0 (V) (Proc.devRef .tc main_v0)
    = shapeCast S4096x4096 (V (Proc.devRef .tc main_arg0)) shapeCasts_S1x4096x4096_S4096x4096 := by
  after_reads_simp
  rfl

theorem ops0_main_v1 : StableHlo.after hostOps0 (V) (Proc.devRef .tc main_v1)
    = shapeCast S4096x128 (V (Proc.devRef .tc main_arg1)) shapeCasts_S1x4096x128_S4096x128 := by
  after_reads_simp
  rfl

theorem ops1_main_v3 : StableHlo.after hostOps1 (V) (Proc.devRef .tc main_v3)
    = shapeCast S4096x1 (V (Proc.devRef .tc main_v2)) shapeCasts_S1x4096_S4096x1 := by
  after_reads_simp
  rfl

theorem ops2_main_v25 : StableHlo.after hostOps2_4 (StableHlo.after hostOps2_3 (StableHlo.after hostOps2_2 (StableHlo.after hostOps2_1 (StableHlo.after hostOps2 (V))))) (Proc.devRef .tc main_v25)
    = layer (V (Proc.devRef .tc main_v4_1)) (V (Proc.devRef .tc main_arg3)) (V (Proc.devRef .tc main_arg4)) := by
  after_reads_simp
  rfl

theorem ops3_main_v47 : StableHlo.after hostOps3_4 (StableHlo.after hostOps3_3 (StableHlo.after hostOps3_2 (StableHlo.after hostOps3_1 (StableHlo.after hostOps3 (V))))) (Proc.devRef .tc main_v47)
    = layer (V (Proc.devRef .tc main_v26)) (V (Proc.devRef .tc main_arg6)) (V (Proc.devRef .tc main_arg7)) := by
  after_reads_simp
  rfl

theorem ops4_main_v69 : StableHlo.after hostOps4_4 (StableHlo.after hostOps4_3 (StableHlo.after hostOps4_2 (StableHlo.after hostOps4_1 (StableHlo.after hostOps4 (V))))) (Proc.devRef .tc main_v69)
    = layer (V (Proc.devRef .tc main_v48)) (V (Proc.devRef .tc main_arg9)) (V (Proc.devRef .tc main_arg10)) := by
  after_reads_simp
  rfl

theorem ops4_main_v70 : StableHlo.after hostOps4_4 (StableHlo.after hostOps4_3 (StableHlo.after hostOps4_2 (StableHlo.after hostOps4_1 (StableHlo.after hostOps4 (V))))) (Proc.devRef .tc main_v70)
    = shapeCast S1x32 (V (Proc.devRef .tc main_arg12)) shapeCasts_S32_S1x32 := by
  after_reads_simp
  rfl

theorem ops4_main_v71 : StableHlo.after hostOps4_4 (StableHlo.after hostOps4_3 (StableHlo.after hostOps4_2 (StableHlo.after hostOps4_1 (StableHlo.after hostOps4 (V))))) (Proc.devRef .tc main_v71)
    = shapeCast S1x22 (V (Proc.devRef .tc main_arg14)) shapeCasts_S22_S1x22 := by
  after_reads_simp
  rfl

theorem ops5_main_v73 : StableHlo.after hostOps5 (V) (Proc.devRef .tc main_v73)
    = shapeCast S1x4096x4096 (V (Proc.devRef .tc main_v72_0)) shapeCasts_S4096x4096_S1x4096x4096 := by
  after_reads_simp
  rfl

theorem ops5_main_v74 : StableHlo.after hostOps5 (V) (Proc.devRef .tc main_v74)
    = shapeCast S1x4096x22 (V (Proc.devRef .tc main_v72_1)) shapeCasts_S4096x22_S1x4096x22 := by
  after_reads_simp
  rfl

/-! ## The arguments between the items -/

/-- The arguments' buffers. -/
def args : List (Ref sig .tc) := [main_arg0, main_arg1, main_arg2, main_arg3, main_arg4, main_arg5, main_arg6, main_arg7, main_arg8, main_arg9, main_arg10, main_arg11, main_arg12, main_arg13, main_arg14]

variable (m : (ℓ : Loc nD τ sig) → Buf (Elt F) ℓ) (c : Dev nD)

/-- No host operation and no call writes an argument. -/
theorem V1_arg : ∀ r ∈ args, V1 m c (Proc.devRef .tc r) = m ((c : Thread nD τ).loc r) := fun r h =>
  (V1_of m c r ((by decide : ∀ r ∈ args, r ∉ (hostOps0_W : List (Ref sig .tc))) r h)).trans rfl

theorem V2_arg : ∀ r ∈ args, V2 m (outs m) c (Proc.devRef .tc r) = m ((c : Thread nD τ).loc r) := fun r h =>
  (V2_of m (outs m) c r ((by decide : ∀ r ∈ args, r ∉ ([main_v2] : List (Ref sig .tc))) r h)).trans (V1_arg m c r h)

theorem V3_arg : ∀ r ∈ args, V3 m (outs m) c (Proc.devRef .tc r) = m ((c : Thread nD τ).loc r) := fun r h =>
  (V3_of m (outs m) c r ((by decide : ∀ r ∈ args, r ∉ (hostOps1_W : List (Ref sig .tc))) r h)).trans (V2_arg m c r h)

theorem V4_arg : ∀ r ∈ args, V4 m (outs m) c (Proc.devRef .tc r) = m ((c : Thread nD τ).loc r) := fun r h =>
  (V4_of m (outs m) c r ((by decide : ∀ r ∈ args, r ∉ ([main_v4_0, main_v4_1] : List (Ref sig .tc))) r h)).trans (V3_arg m c r h)

theorem V5_arg : ∀ r ∈ args, V5 m (outs m) c (Proc.devRef .tc r) = m ((c : Thread nD τ).loc r) := fun r h =>
  (V5_of m (outs m) c r ((by decide : ∀ r ∈ args, r ∉ (hostOps2_W : List (Ref sig .tc))) r h)).trans (V4_arg m c r h)

theorem V6_arg : ∀ r ∈ args, V6 m (outs m) c (Proc.devRef .tc r) = m ((c : Thread nD τ).loc r) := fun r h =>
  (V6_of m (outs m) c r ((by decide : ∀ r ∈ args, r ∉ (hostOps2_1_W : List (Ref sig .tc))) r h)).trans (V5_arg m c r h)

theorem V7_arg : ∀ r ∈ args, V7 m (outs m) c (Proc.devRef .tc r) = m ((c : Thread nD τ).loc r) := fun r h =>
  (V7_of m (outs m) c r ((by decide : ∀ r ∈ args, r ∉ (hostOps2_2_W : List (Ref sig .tc))) r h)).trans (V6_arg m c r h)

theorem V8_arg : ∀ r ∈ args, V8 m (outs m) c (Proc.devRef .tc r) = m ((c : Thread nD τ).loc r) := fun r h =>
  (V8_of m (outs m) c r ((by decide : ∀ r ∈ args, r ∉ (hostOps2_3_W : List (Ref sig .tc))) r h)).trans (V7_arg m c r h)

theorem V9_arg : ∀ r ∈ args, V9 m (outs m) c (Proc.devRef .tc r) = m ((c : Thread nD τ).loc r) := fun r h =>
  (V9_of m (outs m) c r ((by decide : ∀ r ∈ args, r ∉ (hostOps2_4_W : List (Ref sig .tc))) r h)).trans (V8_arg m c r h)

theorem V10_arg : ∀ r ∈ args, V10 m (outs m) c (Proc.devRef .tc r) = m ((c : Thread nD τ).loc r) := fun r h =>
  (V10_of m (outs m) c r ((by decide : ∀ r ∈ args, r ∉ ([main_v26] : List (Ref sig .tc))) r h)).trans (V9_arg m c r h)

theorem V11_arg : ∀ r ∈ args, V11 m (outs m) c (Proc.devRef .tc r) = m ((c : Thread nD τ).loc r) := fun r h =>
  (V11_of m (outs m) c r ((by decide : ∀ r ∈ args, r ∉ (hostOps3_W : List (Ref sig .tc))) r h)).trans (V10_arg m c r h)

theorem V12_arg : ∀ r ∈ args, V12 m (outs m) c (Proc.devRef .tc r) = m ((c : Thread nD τ).loc r) := fun r h =>
  (V12_of m (outs m) c r ((by decide : ∀ r ∈ args, r ∉ (hostOps3_1_W : List (Ref sig .tc))) r h)).trans (V11_arg m c r h)

theorem V13_arg : ∀ r ∈ args, V13 m (outs m) c (Proc.devRef .tc r) = m ((c : Thread nD τ).loc r) := fun r h =>
  (V13_of m (outs m) c r ((by decide : ∀ r ∈ args, r ∉ (hostOps3_2_W : List (Ref sig .tc))) r h)).trans (V12_arg m c r h)

theorem V14_arg : ∀ r ∈ args, V14 m (outs m) c (Proc.devRef .tc r) = m ((c : Thread nD τ).loc r) := fun r h =>
  (V14_of m (outs m) c r ((by decide : ∀ r ∈ args, r ∉ (hostOps3_3_W : List (Ref sig .tc))) r h)).trans (V13_arg m c r h)

theorem V15_arg : ∀ r ∈ args, V15 m (outs m) c (Proc.devRef .tc r) = m ((c : Thread nD τ).loc r) := fun r h =>
  (V15_of m (outs m) c r ((by decide : ∀ r ∈ args, r ∉ (hostOps3_4_W : List (Ref sig .tc))) r h)).trans (V14_arg m c r h)

theorem V16_arg : ∀ r ∈ args, V16 m (outs m) c (Proc.devRef .tc r) = m ((c : Thread nD τ).loc r) := fun r h =>
  (V16_of m (outs m) c r ((by decide : ∀ r ∈ args, r ∉ ([main_v48] : List (Ref sig .tc))) r h)).trans (V15_arg m c r h)

theorem V17_arg : ∀ r ∈ args, V17 m (outs m) c (Proc.devRef .tc r) = m ((c : Thread nD τ).loc r) := fun r h =>
  (V17_of m (outs m) c r ((by decide : ∀ r ∈ args, r ∉ (hostOps4_W : List (Ref sig .tc))) r h)).trans (V16_arg m c r h)

theorem V18_arg : ∀ r ∈ args, V18 m (outs m) c (Proc.devRef .tc r) = m ((c : Thread nD τ).loc r) := fun r h =>
  (V18_of m (outs m) c r ((by decide : ∀ r ∈ args, r ∉ (hostOps4_1_W : List (Ref sig .tc))) r h)).trans (V17_arg m c r h)

theorem V19_arg : ∀ r ∈ args, V19 m (outs m) c (Proc.devRef .tc r) = m ((c : Thread nD τ).loc r) := fun r h =>
  (V19_of m (outs m) c r ((by decide : ∀ r ∈ args, r ∉ (hostOps4_2_W : List (Ref sig .tc))) r h)).trans (V18_arg m c r h)

theorem V20_arg : ∀ r ∈ args, V20 m (outs m) c (Proc.devRef .tc r) = m ((c : Thread nD τ).loc r) := fun r h =>
  (V20_of m (outs m) c r ((by decide : ∀ r ∈ args, r ∉ (hostOps4_3_W : List (Ref sig .tc))) r h)).trans (V19_arg m c r h)

theorem V21_arg : ∀ r ∈ args, V21 m (outs m) c (Proc.devRef .tc r) = m ((c : Thread nD τ).loc r) := fun r h =>
  (V21_of m (outs m) c r ((by decide : ∀ r ∈ args, r ∉ (hostOps4_4_W : List (Ref sig .tc))) r h)).trans (V20_arg m c r h)

/-! ## What a call or a stretch leaves, where a later call reads it -/

theorem V3_keeps_main_v0 : V3 m (outs m) c (Proc.devRef .tc main_v0) = V1 m c (Proc.devRef .tc main_v0) :=
  (V3_of m (outs m) c main_v0 (by decide)) |>.trans (V2_of m (outs m) c main_v0 (by decide))

theorem V3_keeps_main_v1 : V3 m (outs m) c (Proc.devRef .tc main_v1) = V1 m c (Proc.devRef .tc main_v1) :=
  (V3_of m (outs m) c main_v1 (by decide)) |>.trans (V2_of m (outs m) c main_v1 (by decide))

theorem V3_keeps_main_v2 : V3 m (outs m) c (Proc.devRef .tc main_v2) = V2 m (outs m) c (Proc.devRef .tc main_v2) :=
  (V3_of m (outs m) c main_v2 (by decide))

theorem V9_keeps_main_v4_0 : V9 m (outs m) c (Proc.devRef .tc main_v4_0) = V4 m (outs m) c (Proc.devRef .tc main_v4_0) :=
  (V9_of m (outs m) c main_v4_0 (by decide)) |>.trans (V8_of m (outs m) c main_v4_0 (by decide)) |>.trans (V7_of m (outs m) c main_v4_0 (by decide)) |>.trans (V6_of m (outs m) c main_v4_0 (by decide)) |>.trans (V5_of m (outs m) c main_v4_0 (by decide))

theorem V15_keeps_main_v4_0 : V15 m (outs m) c (Proc.devRef .tc main_v4_0) = V9 m (outs m) c (Proc.devRef .tc main_v4_0) :=
  (V15_of m (outs m) c main_v4_0 (by decide)) |>.trans (V14_of m (outs m) c main_v4_0 (by decide)) |>.trans (V13_of m (outs m) c main_v4_0 (by decide)) |>.trans (V12_of m (outs m) c main_v4_0 (by decide)) |>.trans (V11_of m (outs m) c main_v4_0 (by decide)) |>.trans (V10_of m (outs m) c main_v4_0 (by decide))

theorem V21_keeps_main_v25 : V21 m (outs m) c (Proc.devRef .tc main_v25) = V9 m (outs m) c (Proc.devRef .tc main_v25) :=
  (V21_of m (outs m) c main_v25 (by decide)) |>.trans (V20_of m (outs m) c main_v25 (by decide)) |>.trans (V19_of m (outs m) c main_v25 (by decide)) |>.trans (V18_of m (outs m) c main_v25 (by decide)) |>.trans (V17_of m (outs m) c main_v25 (by decide)) |>.trans (V16_of m (outs m) c main_v25 (by decide)) |>.trans (V15_of m (outs m) c main_v25 (by decide)) |>.trans (V14_of m (outs m) c main_v25 (by decide)) |>.trans (V13_of m (outs m) c main_v25 (by decide)) |>.trans (V12_of m (outs m) c main_v25 (by decide)) |>.trans (V11_of m (outs m) c main_v25 (by decide)) |>.trans (V10_of m (outs m) c main_v25 (by decide))

theorem V21_keeps_main_v47 : V21 m (outs m) c (Proc.devRef .tc main_v47) = V15 m (outs m) c (Proc.devRef .tc main_v47) :=
  (V21_of m (outs m) c main_v47 (by decide)) |>.trans (V20_of m (outs m) c main_v47 (by decide)) |>.trans (V19_of m (outs m) c main_v47 (by decide)) |>.trans (V18_of m (outs m) c main_v47 (by decide)) |>.trans (V17_of m (outs m) c main_v47 (by decide)) |>.trans (V16_of m (outs m) c main_v47 (by decide))

/-! ## The two results as functions of the arguments -/

section Results

variable (a0 : FVec F S1x4096x4096 .f32) (a1 : FVec F S1x4096x128 .f32) (a2 : FVec F S128x32 .f32) (a3 a4 : FVec F S32 .f32) (a5 : FVec F S32x32 .f32)
  (a6 a7 : FVec F S32 .f32) (a8 : FVec F S32x32 .f32) (a9 a10 : FVec F S32 .f32)

/-- The matrix that calls 0 and 1 read. -/
def inMat : FVec F S4096x4096 .f32 := shapeCast S4096x4096 a0 shapeCasts_S1x4096x4096_S4096x4096
/-- The features that call 1 reads. -/
def inFeat : FVec F S4096x128 .f32 := shapeCast S4096x128 a1 shapeCasts_S1x4096x128_S4096x128
/-- The scale as a row. -/
def kScale : FVec F S1x4096 .f32 := outScale (inMat a0)
/-- The scale as a column. -/
def kScaleCol : FVec F S4096x1 .f32 := shapeCast S4096x1 (kScale a0) shapeCasts_S1x4096_S4096x1
/-- The normalised matrix. -/
def kNorm : FVec F S4096x4096 .bf16 := outNorm (inMat a0) (kScaleCol a0) (kScale a0)
/-- The first layer's product. -/
def kProd : FVec F S4096x32 .f32 := outOne (inMat a0) (kScaleCol a0) (kScale a0) (inFeat a1) a2
/-- The three layers. -/
def kOne : FVec F S4096x32 .f32 := layer (kProd a0 a1 a2) a3 a4
def kTwo : FVec F S4096x32 .f32 := layer (outMore (kNorm a0) (kOne a0 a1 a2 a3 a4) a5) a6 a7
def kThree : FVec F S4096x32 .f32 := layer (outMore (kNorm a0) (kTwo a0 a1 a2 a3 a4 a5 a6 a7) a8) a9 a10
/-- The contact map. -/
def kMap (a11 : FVec F S96x32 .f32) (a12 : FVec F S32 .f32) : FVec F S1x4096x4096 .f32 :=
  shapeCast S1x4096x4096
    (outMap (kOne a0 a1 a2 a3 a4) (kTwo a0 a1 a2 a3 a4 a5 a6 a7) (kThree a0 a1 a2 a3 a4 a5 a6 a7 a8 a9 a10) a11 (shapeCast S1x32 a12 shapeCasts_S32_S1x32))
    shapeCasts_S4096x4096_S1x4096x4096
/-- The class scores. -/
def kSeq (a13 : FVec F S96x22 .f32) (a14 : FVec F S22 .f32) : FVec F S1x4096x22 .f32 :=
  shapeCast S1x4096x22
    (seq4 (kOne a0 a1 a2 a3 a4) (kTwo a0 a1 a2 a3 a4 a5 a6 a7) (kThree a0 a1 a2 a3 a4 a5 a6 a7 a8 a9 a10) a13 (shapeCast S1x22 a14 shapeCasts_S22_S1x22))
    shapeCasts_S4096x22_S1x4096x22

end Results

/-- An argument as launched. -/
abbrev arg (r : Ref sig .tc) : Buf (Elt F) ((c : Thread nD τ).loc r) := m ((c : Thread nD τ).loc r)

theorem V1_main_v0 : V1 m c (Proc.devRef .tc main_v0) = inMat (arg m c main_arg0) := by
  exact ops0_main_v0 (V0 m c)

theorem V1_main_v1 : V1 m c (Proc.devRef .tc main_v1) = inFeat (arg m c main_arg1) := by
  exact ops0_main_v1 (V0 m c)

theorem V2_at : V2 m (outs m) c (Proc.devRef .tc main_v2) = O2 m main_v2 c := by
  exact Function.update_self ..

theorem V4_at_norm : V4 m (outs m) c (Proc.devRef .tc main_v4_0) = O4 m main_v4_0 c := by
  exact (Function.update_of_ne (StableHlo.devRef_ne_of_ne (by decide)) ..).trans (Function.update_self ..)

theorem V4_at_prod : V4 m (outs m) c (Proc.devRef .tc main_v4_1) = O4 m main_v4_1 c := by
  exact Function.update_self ..

theorem V10_at : V10 m (outs m) c (Proc.devRef .tc main_v26) = O10 m main_v26 c := by
  exact Function.update_self ..

theorem V16_at : V16 m (outs m) c (Proc.devRef .tc main_v48) = O16 m main_v48 c := by
  exact Function.update_self ..

theorem V22_at_map : V22 m (outs m) c (Proc.devRef .tc main_v72_0) = O22 m main_v72_0 c := by
  exact (Function.update_of_ne (StableHlo.devRef_ne_of_ne (by decide)) ..).trans (Function.update_self ..)

theorem V22_at_seq : V22 m (outs m) c (Proc.devRef .tc main_v72_1) = O22 m main_v72_1 c := by
  exact Function.update_self ..

theorem V2_main_v2 : V2 m (outs m) c (Proc.devRef .tc main_v2) = kScale (arg m c main_arg0) := by
  rw [V2_at, O2_main_v2]
  exact congrArg outScale (V1_main_v0 m c)

theorem V3_main_v0 : V3 m (outs m) c (Proc.devRef .tc main_v0) = inMat (arg m c main_arg0) := by
  rw [V3_keeps_main_v0]
  exact V1_main_v0 m c

theorem V3_main_v1 : V3 m (outs m) c (Proc.devRef .tc main_v1) = inFeat (arg m c main_arg1) := by
  rw [V3_keeps_main_v1]
  exact V1_main_v1 m c

theorem V3_main_v2 : V3 m (outs m) c (Proc.devRef .tc main_v2) = kScale (arg m c main_arg0) := by
  rw [V3_keeps_main_v2]
  exact V2_main_v2 m c

theorem V3_main_v3 : V3 m (outs m) c (Proc.devRef .tc main_v3) = kScaleCol (arg m c main_arg0) := by
  refine (ops1_main_v3 (V2 m (outs m) c)).trans ?_
  rw [V2_main_v2]
  rfl

theorem V4_main_v4_0 : V4 m (outs m) c (Proc.devRef .tc main_v4_0) = kNorm (arg m c main_arg0) := by
  rw [V4_at_norm, O4_main_v4_0]
  unfold R1.resL
  rw [← V3_eq, V3_main_v0, V3_main_v2, V3_main_v3]
  rfl

theorem V4_main_v4_1 : V4 m (outs m) c (Proc.devRef .tc main_v4_1) = kProd (arg m c main_arg0) (arg m c main_arg1) (arg m c main_arg2) := by
  rw [V4_at_prod, O4_main_v4_1]
  unfold R1.res
  rw [← V3_eq, V3_main_v0, V3_main_v1, V3_main_v2, V3_main_v3, V3_arg m c main_arg2 (by decide)]
  rfl

theorem V9_main_v25 : V9 m (outs m) c (Proc.devRef .tc main_v25) = kOne (arg m c main_arg0) (arg m c main_arg1) (arg m c main_arg2) (arg m c main_arg3) (arg m c main_arg4) := by
  refine (ops2_main_v25 (V4 m (outs m) c)).trans ?_
  rw [V4_main_v4_1, V4_arg m c main_arg3 (by decide), V4_arg m c main_arg4 (by decide)]
  rfl

theorem V9_main_v4_0 : V9 m (outs m) c (Proc.devRef .tc main_v4_0) = kNorm (arg m c main_arg0) := by
  rw [V9_keeps_main_v4_0]
  exact V4_main_v4_0 m c

theorem V10_main_v26 : V10 m (outs m) c (Proc.devRef .tc main_v26) = outMore (kNorm (arg m c main_arg0)) (kOne (arg m c main_arg0) (arg m c main_arg1) (arg m c main_arg2) (arg m c main_arg3) (arg m c main_arg4)) (arg m c main_arg5) := by
  rw [V10_at, O10_main_v26]
  unfold R2.res
  rw [← V9_eq, V9_main_v4_0, V9_main_v25, V9_arg m c main_arg5 (by decide)]

theorem V15_main_v47 : V15 m (outs m) c (Proc.devRef .tc main_v47) = kTwo (arg m c main_arg0) (arg m c main_arg1) (arg m c main_arg2) (arg m c main_arg3) (arg m c main_arg4) (arg m c main_arg5) (arg m c main_arg6) (arg m c main_arg7) := by
  refine (ops3_main_v47 (V10 m (outs m) c)).trans ?_
  rw [V10_main_v26, V10_arg m c main_arg6 (by decide), V10_arg m c main_arg7 (by decide)]
  rfl

theorem V15_main_v4_0 : V15 m (outs m) c (Proc.devRef .tc main_v4_0) = kNorm (arg m c main_arg0) := by
  rw [V15_keeps_main_v4_0]
  exact V9_main_v4_0 m c

theorem V16_main_v48 : V16 m (outs m) c (Proc.devRef .tc main_v48) = outMore (kNorm (arg m c main_arg0)) (kTwo (arg m c main_arg0) (arg m c main_arg1) (arg m c main_arg2) (arg m c main_arg3) (arg m c main_arg4) (arg m c main_arg5) (arg m c main_arg6) (arg m c main_arg7)) (arg m c main_arg8) := by
  rw [V16_at, O16_main_v48]
  unfold R3.res
  rw [← V15_eq, V15_main_v4_0, V15_main_v47, V15_arg m c main_arg8 (by decide)]

theorem V21_main_v69 : V21 m (outs m) c (Proc.devRef .tc main_v69) = kThree (arg m c main_arg0) (arg m c main_arg1) (arg m c main_arg2) (arg m c main_arg3) (arg m c main_arg4) (arg m c main_arg5) (arg m c main_arg6) (arg m c main_arg7) (arg m c main_arg8) (arg m c main_arg9) (arg m c main_arg10) := by
  refine (ops4_main_v69 (V16 m (outs m) c)).trans ?_
  rw [V16_main_v48, V16_arg m c main_arg9 (by decide), V16_arg m c main_arg10 (by decide)]
  rfl

theorem V21_main_v25 : V21 m (outs m) c (Proc.devRef .tc main_v25) = kOne (arg m c main_arg0) (arg m c main_arg1) (arg m c main_arg2) (arg m c main_arg3) (arg m c main_arg4) := by
  rw [V21_keeps_main_v25]
  exact V9_main_v25 m c

theorem V21_main_v47 : V21 m (outs m) c (Proc.devRef .tc main_v47) = kTwo (arg m c main_arg0) (arg m c main_arg1) (arg m c main_arg2) (arg m c main_arg3) (arg m c main_arg4) (arg m c main_arg5) (arg m c main_arg6) (arg m c main_arg7) := by
  rw [V21_keeps_main_v47]
  exact V15_main_v47 m c

theorem V21_main_v70 : V21 m (outs m) c (Proc.devRef .tc main_v70) = shapeCast S1x32 (arg m c main_arg12) shapeCasts_S32_S1x32 := by
  refine (ops4_main_v70 (V16 m (outs m) c)).trans ?_
  rw [V16_arg m c main_arg12 (by decide)]

theorem V21_main_v71 : V21 m (outs m) c (Proc.devRef .tc main_v71) = shapeCast S1x22 (arg m c main_arg14) shapeCasts_S22_S1x22 := by
  refine (ops4_main_v71 (V16 m (outs m) c)).trans ?_
  rw [V16_arg m c main_arg14 (by decide)]

theorem V23_main_v73 : V23 m (outs m) c (Proc.devRef .tc main_v73) = kMap (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) := by
  refine (ops5_main_v73 (V22 m (outs m) c)).trans ?_
  rw [V22_at_map, O22_main_v72_0]
  unfold R4.resMap
  rw [← V21_eq, V21_main_v25, V21_main_v47, V21_main_v69, V21_main_v70, V21_arg m c main_arg11 (by decide)]
  rfl

theorem V23_main_v74 : V23 m (outs m) c (Proc.devRef .tc main_v74) = kSeq (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) := by
  refine (ops5_main_v74 (V22 m (outs m) c)).trans ?_
  rw [V22_at_seq, O22_main_v72_1]
  unfold R4.resSeq
  rw [← V21_eq, V21_main_v25, V21_main_v47, V21_main_v69, V21_main_v71, V21_arg m c main_arg13 (by decide)]
  rfl

end Cert.KernelIdeal.Hand
-- ==== Proof.ALayer.lean ====
module

public import proofs.«01_k».proof.Proof.ASum
public import proofs.«01_k».proof.Proof.KHost
public import proofs.«01_k».proof.Proof.Gen.ReferenceIdeal.Run

@[expose] public section

set_option maxRecDepth 16384

noncomputable section

/-!
# The three layers, over the extended reals

The calls' results at an entry, and that they are the reference's: the scale, the normalised matrix, the products of each layer.
The normalisation between two layers is the same expression on both sides.
-/

namespace Cert.KernelIdeal.Hand

open Cert.KernelIdeal Cert.KernelIdeal.Gen
open Idealize.ShloMosaic Idealize.ShloMosaic.TcCoe Idealize.ShloMosaic.Tactic
open Cert.ReferenceIdeal.Value (res_main_v7 res_main_v12 res_main_v18 res_main_v20 res_main_v39 res_main_v41 res_main_v60 res_main_v62)

/-! ## The calls at an entry -/

/-- A row of an array, found in its row block. -/
theorem rowBlk_row {n : ℕ} (A : (⟨2, ![4096, n]⟩ : Shape).Idx → EReal) (p : Fin 4096) (q : Fin n) (ht : p.val / 512 < 8) (hr : p.val % 512 < 512) :
    rowBlk ⟨p.val / 512, ht⟩ A (ix2 ⟨p.val % 512, hr⟩ q) = A (ix2 p q) := by
  have e : (⟨512 * (p.val / 512) + p.val % 512, by omega⟩ : Fin 4096) = p := Fin.ext (Nat.div_add_mod _ _)
  exact congrArg (fun k => A (ix2 k q)) e

theorem block_lt (p : Fin 4096) : p.val / 512 < 8 := by omega
theorem row_lt (p : Fin 4096) : p.val % 512 < 512 := by omega

theorem outNorm_at (A : FVec Ideal S4096x4096 .f32) (dc : FVec Ideal S4096x1 .f32) (dr : FVec Ideal S1x4096 .f32) (p q : Fin 4096) :
    outNorm (F := Ideal) A dc dr (ix2 p q) = dc (ix2 p 0) * (A (ix2 p q) + eye p.val q.val) * dr (ix2 0 q) := by
  have h : outNorm (F := Ideal) A dc dr (ix2 p q)
      = k1_pay2 (F := Ideal) (pt8 ⟨p.val / 512, block_lt p⟩) (rowBlk ⟨p.val / 512, block_lt p⟩ A) (rowBlk ⟨p.val / 512, block_lt p⟩ dc) dr
          (ix2 ⟨p.val % 512, row_lt p⟩ q) := rfl
  rw [h]
  pointwise [k1_pay2]
  rw [rowBlk_row, rowBlk_row, pt8_zero, select_block _ _ _ (row_lt p) (block_lt p) q.isLt, Nat.div_add_mod]

theorem preOne_at (A : FVec Ideal S4096x4096 .f32) (dc : FVec Ideal S4096x1 .f32) (dr : FVec Ideal S1x4096 .f32) (x : FVec Ideal S4096x128 .f32)
    (p : Fin 4096) (k : Fin 128) :
    preOne (F := Ideal) A dc dr x (ix2 p k) = ∑ l : Fin 4096, outNorm (F := Ideal) A dc dr (ix2 p l) * x (ix2 l k) := by
  have h : preOne (F := Ideal) A dc dr x (ix2 p k)
      = k1_pay3 (F := Ideal) (pt8 ⟨p.val / 512, block_lt p⟩) (rowBlk ⟨p.val / 512, block_lt p⟩ A) (rowBlk ⟨p.val / 512, block_lt p⟩ dc) dr (k1_pay1 (F := Ideal) x)
          (ix2 ⟨p.val % 512, row_lt p⟩ k) := rfl
  rw [h]
  pointwise [k1_pay3, k1_pay1]
  rfl

theorem outOne_at (A : FVec Ideal S4096x4096 .f32) (dc : FVec Ideal S4096x1 .f32) (dr : FVec Ideal S1x4096 .f32) (x : FVec Ideal S4096x128 .f32)
    (w : FVec Ideal S128x32 .f32) (p : Fin 4096) (q : Fin 32) :
    outOne (F := Ideal) A dc dr x w (ix2 p q)
      = ∑ k : Fin 128, (∑ l : Fin 4096, outNorm (F := Ideal) A dc dr (ix2 p l) * x (ix2 l k)) * w (ix2 k q) := by
  pointwise [outOne, k1_pay4]
  exact Finset.sum_congr rfl fun k _ => congrArg (· * _) (preOne_at A dc dr x p k)

theorem preMore_at (L : FVec Ideal S4096x4096 .bf16) (x : FVec Ideal S4096x32 .f32) (p : Fin 4096) (k : Fin 32) :
    preMore (F := Ideal) L x (ix2 p k) = ∑ l : Fin 4096, L (ix2 p l) * x (ix2 l k) := by
  have h : preMore (F := Ideal) L x (ix2 p k)
      = k2_pay2 (F := Ideal) (rowBlk ⟨p.val / 512, block_lt p⟩ L) (k2_pay1 (F := Ideal) x) (ix2 ⟨p.val % 512, row_lt p⟩ k) := rfl
  rw [h]
  pointwise [k2_pay2, k2_pay1]
  exact Finset.sum_congr rfl fun l _ => congrArg (· * _) (rowBlk_row L p l _ _)

theorem outMore_at (L : FVec Ideal S4096x4096 .bf16) (x : FVec Ideal S4096x32 .f32) (w : FVec Ideal S32x32 .f32) (p : Fin 4096) (q : Fin 32) :
    outMore (F := Ideal) L x w (ix2 p q) = ∑ k : Fin 32, (∑ l : Fin 4096, L (ix2 p l) * x (ix2 l k)) * w (ix2 k q) := by
  pointwise [outMore, k2_pay3]
  exact Finset.sum_congr rfl fun k _ => congrArg (· * _) (preMore_at L x p k)

/-! ## The shapes -/

theorem inMat_at (a0 : FVec Ideal S1x4096x4096 .f32) (p q : Fin 4096) : inMat (F := Ideal) a0 (ix2 p q) = a0 (ix3 0 p q) := by
  pointwise [inMat]

theorem inFeat_at (a1 : FVec Ideal S1x4096x128 .f32) (p : Fin 4096) (q : Fin 128) : inFeat (F := Ideal) a1 (ix2 p q) = a1 (ix3 0 p q) := by
  pointwise [inFeat]

theorem kScaleCol_at (a0 : FVec Ideal S1x4096x4096 .f32) (p : Fin 4096) : kScaleCol (F := Ideal) a0 (ix2 p 0) = kScale (F := Ideal) a0 (ix2 0 p) := by
  pointwise [kScaleCol]

theorem thick_at (h : FVec Ideal S4096x32 .f32) (p : Fin 4096) (q : Fin 32) : thick (F := Ideal) h (ix3 0 p q) = h (ix2 p q) := by
  pointwise [thick]

/-- Arrays of one slab are equal when their entries are. -/
theorem slab_ext {n k : ℕ} (f g : (⟨3, ![1, n, k]⟩ : Shape).Idx → EReal) (h : ∀ (p : Fin n) (q : Fin k), f (ix3 0 p q) = g (ix3 0 p q)) : f = g := by
  funext j
  have e : j = ix3 0 (j 1) (j 2) := by
    funext a
    match a with
    | ⟨0, _⟩ => exact Subsingleton.elim (α := Fin 1) _ _
    | ⟨1, _⟩ => rfl
    | ⟨2, _⟩ => rfl
  rw [e]
  exact h _ _

theorem layer_at (h : FVec Ideal S4096x32 .f32) (g b : FVec Ideal S32 .f32) (p : Fin 4096) (q : Fin 32) :
    layer (F := Ideal) h g b (ix2 p q) = bnRelu (F := Ideal) (thick h) g b (ix3 0 p q) := by
  pointwise [layer]

/-! ## The reference's terms -/

variable (V : Valuation Cert.ReferenceIdeal.τ Cert.ReferenceIdeal.sig (Elt Ideal))

/-- An argument of the reference. -/
abbrev rarg (r : Ref Cert.ReferenceIdeal.sig .tc) : (Proc.devRef .tc r : DevRef Cert.ReferenceIdeal.τ Cert.ReferenceIdeal.sig).ty.Contents (Elt Ideal) :=
  V (Proc.devRef .tc r)

theorem uitofp_eq (a b : BitVec 32) : FloatOps.uitofp (F := Ideal) .f32 (IntOp.cmpi .eq a b) = (if a = b then 1 else 0 : EReal) := by
  by_cases h : a = b
  · subst h; simp [FloatOps.uitofp, IntOp.cmpi]
  · have hb : (a == b) = false := by simpa using h
    simp [FloatOps.uitofp, IntOp.cmpi, h, hb]

theorem v7_at (p q : Fin 4096) :
    res_main_v7 V (ix3 0 p q) = (HAdd.hAdd : EReal → EReal → EReal) (rarg V Cert.ReferenceIdeal.main_arg0 (ix3 0 p q)) (eye p.val q.val) := by
  pointwise [res_main_v7]
  refine congrArg ((HAdd.hAdd : EReal → EReal → EReal) _) ?_
  rw [uitofp_eq]
  unfold eye
  refine if_congr ?_ rfl rfl
  rw [← BitVec.toNat_inj]
  simp only [IntOp.addi, BitVec.toNat_add, BitVec.toNat_ofNat]
  omega

theorem kScale_eq (q : Fin 4096) : kScale (F := Ideal) (rarg V Cert.ReferenceIdeal.main_arg0) (ix2 0 q) = res_main_v12 V (ix2 0 q) := by
  unfold kScale
  rw [outScale_at]
  pointwise [res_main_v12]
  refine congrArg (fun z => Ideal.pow (z + _) _) (Finset.sum_congr rfl fun k _ => ?_)
  rw [inMat_at, v7_at]

theorem kNorm_eq (p q : Fin 4096) : kNorm (F := Ideal) (rarg V Cert.ReferenceIdeal.main_arg0) (ix2 p q) = res_main_v18 V (ix3 0 p q) := by
  unfold kNorm
  rw [outNorm_at]
  pointwise [res_main_v18]
  rw [kScaleCol_at, kScale_eq, kScale_eq, inMat_at, v7_at]

/-- The first layer's product is the reference's, where its operands are. -/
theorem first_eq (A : FVec Ideal S4096x4096 .f32) (dc : FVec Ideal S4096x1 .f32) (dr : FVec Ideal S1x4096 .f32) (x : FVec Ideal S4096x128 .f32)
    (w : FVec Ideal S128x32 .f32) (Lr : FVec Ideal S1x4096x4096 .f32) (xr : FVec Ideal S1x4096x128 .f32)
    (hL : ∀ p q, outNorm (F := Ideal) A dc dr (ix2 p q) = Lr (ix3 0 p q)) (hx : ∀ p q, x (ix2 p q) = xr (ix3 0 p q)) :
    thick (F := Ideal) (outOne (F := Ideal) A dc dr x w)
      = Host.dotGeneral Cert.ReferenceIdeal.dot_S1x4096x128_S128x32_S1x4096x32_2_0_01_1_n_n none
          (Host.dotGeneral Cert.ReferenceIdeal.dot_S1x4096x4096_S1x4096x128_S1x4096x128_2_1_1_2_0_0 none Lr xr) w := by
  refine slab_ext _ _ fun p q => ?_
  rw [thick_at, outOne_at]
  pointwise
  refine Finset.sum_congr rfl fun k _ => congrArg (· * _) (Finset.sum_congr rfl fun l _ => ?_)
  rw [hL, hx]

theorem kProd_eq : thick (F := Ideal) (kProd (rarg V Cert.ReferenceIdeal.main_arg0) (rarg V Cert.ReferenceIdeal.main_arg1) (rarg V Cert.ReferenceIdeal.main_arg2))
    = res_main_v20 V :=
  first_eq _ _ _ _ _ (res_main_v18 V) (rarg V Cert.ReferenceIdeal.main_arg1) (kNorm_eq V) (inFeat_at _)

/-- A later layer's product is the reference's, where its operands are. -/
theorem more_eq (L : FVec Ideal S4096x4096 .bf16) (x : FVec Ideal S4096x32 .f32) (w : FVec Ideal S32x32 .f32)
    (Lr : FVec Ideal S1x4096x4096 .f32) (xr : FVec Ideal S1x4096x32 .f32) (hL : ∀ p q, L (ix2 p q) = Lr (ix3 0 p q)) (hx : ∀ p q, x (ix2 p q) = xr (ix3 0 p q)) :
    thick (F := Ideal) (outMore (F := Ideal) L x w)
      = Host.dotGeneral Cert.ReferenceIdeal.dot_S1x4096x32_S32x32_S1x4096x32_2_0_01_1_n_n none
          (Host.dotGeneral Cert.ReferenceIdeal.dot_S1x4096x4096_S1x4096x32_S1x4096x32_2_1_1_2_0_0 none Lr xr) w := by
  refine slab_ext _ _ fun p q => ?_
  rw [thick_at, outMore_at]
  pointwise
  refine Finset.sum_congr rfl fun k _ => congrArg (· * _) (Finset.sum_congr rfl fun l _ => ?_)
  rw [hL, hx]

/-- The reference's layers are the same normalisation. -/
theorem v39_eq : res_main_v39 V = bnRelu (F := Ideal) (res_main_v20 V) (rarg V Cert.ReferenceIdeal.main_arg3) (rarg V Cert.ReferenceIdeal.main_arg4) := rfl
theorem v60_eq : res_main_v60 V = bnRelu (F := Ideal) (res_main_v41 V) (rarg V Cert.ReferenceIdeal.main_arg6) (rarg V Cert.ReferenceIdeal.main_arg7) := rfl

end Cert.KernelIdeal.Hand
-- ==== Proof.AOut.lean ====
module

public import proofs.«01_k».proof.Proof.ALayer
public import Idealize.ShloMosaic.Lib.KernelVsHost

@[expose] public section

set_option maxRecDepth 16384

noncomputable section

/-!
# The two results, over the extended reals

The reference joins the three layers side by side and multiplies once; the kernel multiplies each layer by its own rows of the weights and adds.
-/

namespace Cert.KernelIdeal.Hand

open Cert.KernelIdeal Cert.KernelIdeal.Gen
open Idealize.ShloMosaic Idealize.ShloMosaic.TcCoe Idealize.ShloMosaic.Tactic
open Cert.ReferenceIdeal.Value (res_main_v7 res_main_v12 res_main_v18 res_main_v20 res_main_v39 res_main_v41 res_main_v60 res_main_v62 res_main_v82 res_main_v86
  res_main_v97 res_main_call6_v5)

/-! ## Joining the layers -/

/-- A sum over ninety-six terms, a third at a time. -/
theorem sum_thirds (f : Fin 96 → EReal) :
    ∑ x, f x = ∑ i : Fin 32, f ⟨i.val, by omega⟩ + ∑ i : Fin 32, f ⟨32 + i.val, by omega⟩ + ∑ i : Fin 32, f ⟨64 + i.val, by omega⟩ := by
  refine (Fin.sum_univ_add (a := 64) (b := 32) f).trans ?_
  refine congrArg (· + _) ?_
  exact Fin.sum_univ_add (a := 32) (b := 32) fun i : Fin 64 => f (Fin.castAdd 32 i)

/-- Three arrays side by side. -/
def joined (x y z : FVec Ideal S1x4096x32 .f32) : FVec Ideal Cert.ReferenceIdeal.S1x4096x96 .f32 :=
  concatenate Cert.ReferenceIdeal.S1x4096x96 2 [⟨S1x4096x32, x⟩, ⟨S1x4096x32, y⟩, ⟨S1x4096x32, z⟩]
    Cert.ReferenceIdeal.Gen.concatenates_S1x4096x32_S1x4096x32_S1x4096x32_S1x4096x96_d2

theorem joined_first (x y z : FVec Ideal S1x4096x32 .f32) (p : Fin 4096) (i : Fin 32) : joined x y z (ix3 0 p ⟨i.val, by omega⟩) = x (ix3 0 p i) := by
  pointwise [joined]

theorem joined_second (x y z : FVec Ideal S1x4096x32 .f32) (p : Fin 4096) (i : Fin 32) : joined x y z (ix3 0 p ⟨32 + i.val, by omega⟩) = y (ix3 0 p i) := by
  pointwise [joined]

theorem joined_third (x y z : FVec Ideal S1x4096x32 .f32) (p : Fin 4096) (i : Fin 32) : joined x y z (ix3 0 p ⟨64 + i.val, by omega⟩) = z (ix3 0 p i) := by
  pointwise [joined]
  rw [dif_neg (by omega), dif_neg (by omega)]
  exact congrArg (fun k : Fin 32 => z (ix3 0 p k)) (Fin.ext (by show 64 + i.val - 32 - 32 = i.val; omega))

variable (V : Valuation Cert.ReferenceIdeal.τ Cert.ReferenceIdeal.sig (Elt Ideal))

theorem v82_eq : res_main_v82 V = joined (res_main_v39 V) (res_main_v60 V)
    (bnRelu (F := Ideal) (res_main_v62 V) (rarg V Cert.ReferenceIdeal.main_arg9) (rarg V Cert.ReferenceIdeal.main_arg10)) := rfl

/-! ## The layers' outputs -/

/-- The kernel's layers, of the reference's arguments. -/
def oneOf : FVec Ideal S4096x32 .f32 :=
  kOne (F := Ideal) (rarg V Cert.ReferenceIdeal.main_arg0) (rarg V Cert.ReferenceIdeal.main_arg1) (rarg V Cert.ReferenceIdeal.main_arg2)
    (rarg V Cert.ReferenceIdeal.main_arg3) (rarg V Cert.ReferenceIdeal.main_arg4)
def twoOf : FVec Ideal S4096x32 .f32 :=
  kTwo (F := Ideal) (rarg V Cert.ReferenceIdeal.main_arg0) (rarg V Cert.ReferenceIdeal.main_arg1) (rarg V Cert.ReferenceIdeal.main_arg2)
    (rarg V Cert.ReferenceIdeal.main_arg3) (rarg V Cert.ReferenceIdeal.main_arg4) (rarg V Cert.ReferenceIdeal.main_arg5)
    (rarg V Cert.ReferenceIdeal.main_arg6) (rarg V Cert.ReferenceIdeal.main_arg7)
def threeOf : FVec Ideal S4096x32 .f32 :=
  kThree (F := Ideal) (rarg V Cert.ReferenceIdeal.main_arg0) (rarg V Cert.ReferenceIdeal.main_arg1) (rarg V Cert.ReferenceIdeal.main_arg2)
    (rarg V Cert.ReferenceIdeal.main_arg3) (rarg V Cert.ReferenceIdeal.main_arg4) (rarg V Cert.ReferenceIdeal.main_arg5)
    (rarg V Cert.ReferenceIdeal.main_arg6) (rarg V Cert.ReferenceIdeal.main_arg7) (rarg V Cert.ReferenceIdeal.main_arg8)
    (rarg V Cert.ReferenceIdeal.main_arg9) (rarg V Cert.ReferenceIdeal.main_arg10)

theorem oneOf_at (p : Fin 4096) (q : Fin 32) : oneOf V (ix2 p q) = res_main_v39 V (ix3 0 p q) := by
  unfold oneOf kOne
  rw [layer_at, kProd_eq, v39_eq]

theorem twoOf_at (p : Fin 4096) (q : Fin 32) : twoOf V (ix2 p q) = res_main_v60 V (ix3 0 p q) := by
  have h := more_eq (kNorm (F := Ideal) (rarg V Cert.ReferenceIdeal.main_arg0)) (oneOf V) (rarg V Cert.ReferenceIdeal.main_arg5)
    (res_main_v18 V) (res_main_v39 V) (kNorm_eq V) (oneOf_at V)
  unfold twoOf kTwo
  rw [layer_at, v60_eq]
  exact congrArg (fun y => bnRelu (F := Ideal) y _ _ (ix3 0 p q)) h

theorem threeOf_at (p : Fin 4096) (q : Fin 32) : threeOf V (ix2 p q)
    = bnRelu (F := Ideal) (res_main_v62 V) (rarg V Cert.ReferenceIdeal.main_arg9) (rarg V Cert.ReferenceIdeal.main_arg10) (ix3 0 p q) := by
  have h := more_eq (kNorm (F := Ideal) (rarg V Cert.ReferenceIdeal.main_arg0)) (twoOf V) (rarg V Cert.ReferenceIdeal.main_arg8)
    (res_main_v18 V) (res_main_v60 V) (kNorm_eq V) (twoOf_at V)
  unfold threeOf kThree
  rw [layer_at]
  exact congrArg (fun y => bnRelu (F := Ideal) y _ _ (ix3 0 p q)) h

/-- A product of the joined layers, a layer at a time. -/
theorem joined_sum (p : Fin 4096) (w : Fin 96 → EReal) :
    ∑ x : Fin 96, (HMul.hMul : EReal → EReal → EReal) (res_main_v82 V (ix3 0 p x)) (w x)
      = ∑ i : Fin 32, oneOf V (ix2 p i) * w ⟨i.val, by omega⟩ + ∑ i : Fin 32, twoOf V (ix2 p i) * w ⟨32 + i.val, by omega⟩
        + ∑ i : Fin 32, threeOf V (ix2 p i) * w ⟨64 + i.val, by omega⟩ := by
  rw [v82_eq]
  refine (sum_thirds _).trans ?_
  simp only [joined_first, joined_second, joined_third, oneOf_at, twoOf_at, threeOf_at]

/-! ## The contact map -/

theorem code_at (p : Fin 4096) (q : Fin 32) :
    k4_pay6 (F := Ideal) (oneOf V) (twoOf V) (threeOf V) (rarg V Cert.ReferenceIdeal.main_arg11) (shapeCast S1x32 (rarg V Cert.ReferenceIdeal.main_arg12) shapeCasts_S32_S1x32) (ix2 p q)
      = res_main_v86 V (ix3 0 p q) := by
  pointwise [k4_pay6, k4_pay3, k4_pay4, k4_pay5, res_main_v86]
  exact congrArg (fun z : EReal => z + _) (joined_sum V p fun x => rarg V Cert.ReferenceIdeal.main_arg11 (ix2 x q)).symm

theorem outMap_at (x1 x2 x3 : FVec Ideal S4096x32 .f32) (w : FVec Ideal S96x32 .f32) (b : FVec Ideal S1x32 .f32) (p q : Fin 4096) :
    outMap (F := Ideal) x1 x2 x3 w b (ix2 p q)
      = Ideal.logistic (∑ k : Fin 32, k4_pay6 (F := Ideal) x1 x2 x3 w b (ix2 p k) * k4_pay6 (F := Ideal) x1 x2 x3 w b (ix2 q k)) := by
  have h : outMap (F := Ideal) x1 x2 x3 w b (ix2 p q)
      = k4_pay2 (F := Ideal) (rowBlk ⟨p.val / 512, block_lt p⟩ (k4_pay6 (F := Ideal) x1 x2 x3 w b)) (k4_pay6 (F := Ideal) x1 x2 x3 w b)
          (ix2 ⟨p.val % 512, row_lt p⟩ q) := rfl
  rw [h]
  pointwise [k4_pay2]
  exact congrArg Ideal.logistic (Finset.sum_congr rfl fun k _ => congrArg (· * _) (rowBlk_row _ p k _ _))

/-- The reference's contact map. -/
def refMap : FVec Ideal S1x4096x4096 .f32 :=
  Host.divf (broadcastInDim Cert.ReferenceIdeal.S1x4096x4096 ![] Cert.ReferenceIdeal.Gen.bcast_S_S1x4096x4096 (constant Cert.ReferenceIdeal.S_ .f32 0x3F800000#32))
    (addf (broadcastInDim Cert.ReferenceIdeal.S1x4096x4096 ![] Cert.ReferenceIdeal.Gen.bcast_S_S1x4096x4096 (constant Cert.ReferenceIdeal.S_ .f32 0x3F800000#32))
      (Host.exp (Host.negf (Host.dotGeneral (φ₁ := .f32) (φ₂ := .f32) Cert.ReferenceIdeal.dot_S1x4096x32_S1x4096x32_S1x4096x4096_2_2_1_1_0_0 none (res_main_v86 V) (res_main_v86 V)))))

theorem map_eq : kMap (F := Ideal) (rarg V Cert.ReferenceIdeal.main_arg0) (rarg V Cert.ReferenceIdeal.main_arg1) (rarg V Cert.ReferenceIdeal.main_arg2)
      (rarg V Cert.ReferenceIdeal.main_arg3) (rarg V Cert.ReferenceIdeal.main_arg4) (rarg V Cert.ReferenceIdeal.main_arg5)
      (rarg V Cert.ReferenceIdeal.main_arg6) (rarg V Cert.ReferenceIdeal.main_arg7) (rarg V Cert.ReferenceIdeal.main_arg8)
      (rarg V Cert.ReferenceIdeal.main_arg9) (rarg V Cert.ReferenceIdeal.main_arg10) (rarg V Cert.ReferenceIdeal.main_arg11)
      (rarg V Cert.ReferenceIdeal.main_arg12) = refMap V := by
  refine slab_ext _ _ fun p q => ?_
  refine Eq.trans (b := outMap (F := Ideal) (oneOf V) (twoOf V) (threeOf V) (rarg V Cert.ReferenceIdeal.main_arg11)
    (shapeCast S1x32 (rarg V Cert.ReferenceIdeal.main_arg12) shapeCasts_S32_S1x32) (ix2 p q)) ?_ ?_
  · pointwise [kMap]
    rfl
  · rw [outMap_at]
    refine (congrArg Ideal.logistic (Finset.sum_congr rfl fun k _ =>
      congrArg₂ (HMul.hMul : EReal → EReal → EReal) (code_at V p k) (code_at V q k))).trans ?_
    pointwise [refMap]
    rfl

/-! ## The class scores -/

theorem scores_at (p : Fin 4096) (q : Fin 22) :
    res_main_v97 V (ix3 0 p q)
      = (HAdd.hAdd : EReal → EReal → EReal) (HAdd.hAdd (k4_pay7 (F := Ideal) (oneOf V) (twoOf V) (rarg V Cert.ReferenceIdeal.main_arg13) (ix2 p q) : EReal)
          (∑ i : Fin 32, k4_pay9 (F := Ideal) (threeOf V) (ix2 p i) * k4_pay8 (F := Ideal) (rarg V Cert.ReferenceIdeal.main_arg13) (ix2 i q)))
        (rarg V Cert.ReferenceIdeal.main_arg14 (ix1 q)) := by
  pointwise [k4_pay7, k4_pay8, k4_pay9, k4_pay3, k4_pay4, k4_pay5, res_main_v97]
  exact congrArg (fun z : EReal => z + _) (joined_sum V p fun x => rarg V Cert.ReferenceIdeal.main_arg13 (ix2 x q))

/-- A maximum against the fold's own starting value changes nothing. -/
theorem max_fold (b : EReal) (s : Fin 22 → EReal) : max b (Finset.fold max b s Finset.univ) = Finset.fold max b s Finset.univ := by
  refine max_eq_right ?_
  exact (Finset.le_fold_max b).mpr (Or.inl le_rfl)

/-- An array less the greatest of each row. -/
theorem less_greatest_at (X : FVec Ideal S1x4096x22 .f32) (p : Fin 4096) (q : Fin 22) :
    subf X (broadcastInDim Cert.ReferenceIdeal.S1x4096x22 ![0, 1, 2] Cert.ReferenceIdeal.Gen.bcast_S1x4096x1_S1x4096x22_0_1_2
      (broadcastInDim Cert.ReferenceIdeal.S1x4096x1 ![0, 1] Cert.ReferenceIdeal.Gen.bcast_S1x4096_S1x4096x1_0_1
        (maximumf (broadcastInDim Cert.ReferenceIdeal.S1x4096 ![] Cert.ReferenceIdeal.Gen.bcast_S_S1x4096 (constant Cert.ReferenceIdeal.S_ .f32 0xFF800000#32))
          (Host.reduce FloatOps.maximumf X (constant Cert.ReferenceIdeal.S_ .f32 0xFF800000#32) Cert.ReferenceIdeal.Gen.reducesTo_S1x4096x22_S1x4096_d2
            Cert.ReferenceIdeal.Gen.h_S_)))) (ix3 0 p q)
      = X (ix3 0 p q) - Finset.fold max (Ideal.ofBits .f32 0xFF800000#32) (fun x : Fin 22 => X (ix3 0 p x)) Finset.univ := by
  rw [hostReduce_maximumf_eq_multiReduction X 0xFF800000#32 _ _ (by decide) (.inl rfl) rfl]
  pointwise
  exact congrArg ((HSub.hSub : EReal → EReal → EReal) _) (max_fold _ _)

/-- The reference's scores, less the greatest of their row. -/
theorem call6_at (p : Fin 4096) (q : Fin 22) :
    res_main_call6_v5 V (ix3 0 p q)
      = (HSub.hSub : EReal → EReal → EReal) (res_main_v97 V (ix3 0 p q))
          (Finset.fold max (Ideal.ofBits .f32 0xFF800000#32) (fun x : Fin 22 => (res_main_v97 V (ix3 0 p x) : EReal)) Finset.univ) :=
  less_greatest_at (res_main_v97 V) p q

/-- The reference's class scores. -/
def refSeq : FVec Ideal S1x4096x22 .f32 :=
  subf (res_main_call6_v5 V) (broadcastInDim Cert.ReferenceIdeal.S1x4096x22 ![0, 1, 2] Cert.ReferenceIdeal.Gen.bcast_S1x4096x1_S1x4096x22_0_1_2
    (Host.log (broadcastInDim Cert.ReferenceIdeal.S1x4096x1 ![0, 1] Cert.ReferenceIdeal.Gen.bcast_S1x4096_S1x4096x1_0_1
      (Host.reduceAdd (Host.exp (res_main_call6_v5 V)) (constant Cert.ReferenceIdeal.S_ .f32 0x00000000#32)
        Cert.ReferenceIdeal.Gen.reducesTo_S1x4096x22_S1x4096_d2 Cert.ReferenceIdeal.Gen.h_S_))))

theorem seq_eq : kSeq (F := Ideal) (rarg V Cert.ReferenceIdeal.main_arg0) (rarg V Cert.ReferenceIdeal.main_arg1) (rarg V Cert.ReferenceIdeal.main_arg2)
      (rarg V Cert.ReferenceIdeal.main_arg3) (rarg V Cert.ReferenceIdeal.main_arg4) (rarg V Cert.ReferenceIdeal.main_arg5)
      (rarg V Cert.ReferenceIdeal.main_arg6) (rarg V Cert.ReferenceIdeal.main_arg7) (rarg V Cert.ReferenceIdeal.main_arg8)
      (rarg V Cert.ReferenceIdeal.main_arg9) (rarg V Cert.ReferenceIdeal.main_arg10) (rarg V Cert.ReferenceIdeal.main_arg13)
      (rarg V Cert.ReferenceIdeal.main_arg14) = refSeq V := by
  refine slab_ext _ _ fun p q => ?_
  refine Eq.trans (b := k4_pay1 (F := Ideal) (k4_pay7 (F := Ideal) (oneOf V) (twoOf V) (rarg V Cert.ReferenceIdeal.main_arg13)) (k4_pay8 (F := Ideal) (rarg V Cert.ReferenceIdeal.main_arg13))
    (k4_pay9 (F := Ideal) (threeOf V)) (shapeCast S1x22 (rarg V Cert.ReferenceIdeal.main_arg14) shapeCasts_S22_S1x22) (ix2 p q)) ?_ ?_
  · pointwise [kSeq]
    rfl
  · pointwise [k4_pay1, refSeq]
    simp only [call6_at, scores_at]

end Cert.KernelIdeal.Hand
-- ==== Proof.Alg.lean ====
module

public import proofs.«01_k».proof.Defs
public import proofs.«01_k».proof.Proof.Frames
public import proofs.«01_k».proof.Proof.AOut

@[expose] public section

set_option maxRecDepth 16384

noncomputable section

/-!
# Both programs end with the same results, over the extended reals
-/

namespace Cert.KernelIdeal.Hand

open Cert.KernelIdeal Cert.KernelIdeal.Gen
open Idealize.ShloMosaic Idealize.ShloMosaic.TcCoe

/-- Equal arguments give equal contact maps. -/
theorem kMap_congr {a0 b0 : FVec Ideal S1x4096x4096 .f32} {a1 b1 : FVec Ideal S1x4096x128 .f32} {a2 b2 : FVec Ideal S128x32 .f32} {a3 b3 : FVec Ideal S32 .f32} {a4 b4 : FVec Ideal S32 .f32} {a5 b5 : FVec Ideal S32x32 .f32} {a6 b6 : FVec Ideal S32 .f32} {a7 b7 : FVec Ideal S32 .f32} {a8 b8 : FVec Ideal S32x32 .f32} {a9 b9 : FVec Ideal S32 .f32} {a10 b10 : FVec Ideal S32 .f32} {a11 b11 : FVec Ideal S96x32 .f32} {a12 b12 : FVec Ideal S32 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) :
    kMap (F := Ideal) a0 a1 a2 a3 a4 a5 a6 a7 a8 a9 a10 a11 a12
      = kMap (F := Ideal) b0 b1 b2 b3 b4 b5 b6 b7 b8 b9 b10 b11 b12 := by
  rw [h0, h1, h2, h3, h4, h5, h6, h7, h8, h9, h10, h11, h12]

/-- Equal arguments give equal class scores. -/
theorem kSeq_congr {a0 b0 : FVec Ideal S1x4096x4096 .f32} {a1 b1 : FVec Ideal S1x4096x128 .f32} {a2 b2 : FVec Ideal S128x32 .f32} {a3 b3 : FVec Ideal S32 .f32} {a4 b4 : FVec Ideal S32 .f32} {a5 b5 : FVec Ideal S32x32 .f32} {a6 b6 : FVec Ideal S32 .f32} {a7 b7 : FVec Ideal S32 .f32} {a8 b8 : FVec Ideal S32x32 .f32} {a9 b9 : FVec Ideal S32 .f32} {a10 b10 : FVec Ideal S32 .f32} {a13 b13 : FVec Ideal S96x22 .f32} {a14 b14 : FVec Ideal S22 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h13 : a13 = b13) (h14 : a14 = b14) :
    kSeq (F := Ideal) a0 a1 a2 a3 a4 a5 a6 a7 a8 a9 a10 a13 a14
      = kSeq (F := Ideal) b0 b1 b2 b3 b4 b5 b6 b7 b8 b9 b10 b13 b14 := by
  rw [h0, h1, h2, h3, h4, h5, h6, h7, h8, h9, h10, h13, h14]

/-- The contact map and the class scores the kernel ends with, as functions of its arguments. -/
def mapOf (m : (ℓ : Loc nD τ sig) → Buf (Elt Ideal) ℓ) (c : Dev nD) : FVec Ideal S1x4096x4096 .f32 :=
  kMap (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12)
def seqOf (m : (ℓ : Loc nD τ sig) → Buf (Elt Ideal) ℓ) (c : Dev nD) : FVec Ideal S1x4096x22 .f32 :=
  kSeq (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14)

end Cert.KernelIdeal.Hand

namespace Cert.Proof

open Idealize.ShloMosaic Idealize.SL.Sem
open Cert.KernelIdeal.Hand (mapOf seqOf)

attribute [local instance] Cert.Kernel.Gen.facts Cert.KernelIdeal.Gen.facts Cert.ReferenceIdeal.Gen.facts

/-- The ideal kernel and the ideal reference end with the same contact map and the same class scores. -/
theorem same_results : Cert.algebraic_KernelIdeal_ReferenceIdeal := by
  intro m g m' g' _ agree
  refine ⟨mapOf m, seqOf m, ?_, ?_⟩
  · refine (θ_run (Cert.KernelIdeal.defs (F := Ideal)) _ _).mono (fun r h c => ?_) (Cert.KernelIdeal.Hand.run_last (F := Ideal) m g)
    exact ⟨(Cert.KernelIdeal.Hand.ends_at m r.2 h.1 c Cert.KernelIdeal.main_v73 rfl).trans (Cert.KernelIdeal.Hand.V23_main_v73 m c),
      (Cert.KernelIdeal.Hand.ends_at m r.2 h.1 c Cert.KernelIdeal.main_v74 rfl).trans (Cert.KernelIdeal.Hand.V23_main_v74 m c),
      Cert.KernelIdeal.Hand.last_args m c r.2 h.1⟩
  · refine (θ_run (Cert.ReferenceIdeal.defs (F := Ideal)) _ _).mono (fun r h c => ?_) (Cert.ReferenceIdeal.Value.run (F := Ideal) m' g')
    obtain ⟨h0, h1, h2, h3, h4, h5, h6, h7, h8, h9, h10, h11, h12, h13, h14⟩ := agree c
    obtain ⟨hmap, hseq, hargs⟩ := h c
    exact ⟨hmap.trans ((Cert.KernelIdeal.Hand.map_eq (StableHlo.launchContents m' c)).symm.trans
        (Cert.KernelIdeal.Hand.kMap_congr h0 h1 h2 h3 h4 h5 h6 h7 h8 h9 h10 h11 h12)),
      hseq.trans ((Cert.KernelIdeal.Hand.seq_eq (StableHlo.launchContents m' c)).symm.trans
        (Cert.KernelIdeal.Hand.kSeq_congr h0 h1 h2 h3 h4 h5 h6 h7 h8 h9 h10 h13 h14)), hargs⟩

end Cert.Proof

end
-- ==== Proof.lean ====
module

public import proofs.«01_k».proof.Defs
public import proofs.«01_k».proof.Proof.Frames
public import proofs.«01_k».proof.Proof.Alg

@[expose] public section

noncomputable section

namespace Cert.Proof

open Idealize.ShloMosaic Idealize.SL.Sem Cert.Kernel

/-- The kernel's three programs run and leave their arguments and counters alone; the ideal program is the kernel over the extended reals;
    over them the kernel and the reference end with the same results. -/
theorem claim : Cert.Claim := ⟨Cert.Kernel.Gen.facts, Cert.KernelIdeal.Gen.facts, Cert.ReferenceIdeal.Gen.facts,
  kernel_frame, ideal_frame, reference_frame, trivial, same_results⟩

end Cert.Proof

end
